-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![2048, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S12x32x512 : Shape := ⟨3, ![12, 32, 512]⟩
abbrev S12 : Shape := ⟨1, ![12]⟩
abbrev S36 : Shape := ⟨1, ![36]⟩
abbrev S32x512 : Shape := ⟨2, ![32, 512]⟩
abbrev S1x32x512 : Shape := ⟨3, ![1, 32, 512]⟩
abbrev S_ : Shape := ⟨0, ![]⟩
abbrev S1 : Shape := ⟨1, ![1]⟩
abbrev S512x512 : Shape := ⟨2, ![512, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .local _ .vmem, ⟨0, _⟩ => ⟨S512x2048, .bf16⟩
  | .local _ .vmem, ⟨1, _⟩ => ⟨S2048x512, .bf16⟩
  | .local _ .vmem, ⟨2, _⟩ => ⟨S12x32x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32_9 : BitVec 32) (c1_i32_3 : BitVec 32) : Fin 2 → Nat :=
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.addi v9 v2
  let c128_i32 : BitVec 32 := 128#32
  let v22 : BitVec 32 := Scalar.muli v10 c128_i32
  let v23 : BitVec 32 := Scalar.addi v22 c0_i32_9
  let v25 : Index := Scalar.indexCast v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v24 : BitVec 32 := Scalar.muli v21 c512_i32
  let v26 : Index := Scalar.indexCast v24
  ![v25.toNat, v26.toNat]
def k0_dev1 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v180 : BitVec 32 := Scalar.muli v2 c8_i32_89
  let v181 : BitVec 32 := Scalar.addi c0_i32_90 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v182 : BitVec 32 := Scalar.muli v5 c4_i32_91
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v169 : BitVec 32 := Scalar.addi v8 c1_i32_81
  let c4_i32_82 : BitVec 32 := 4#32
  let c0_i32_83 : BitVec 32 := 0#32
  let v170 : BitVec 1 := Scalar.cmpi .eq c4_i32_82 c0_i32_83
  let c1_i32_84 : BitVec 32 := 1#32
  let v171 : BitVec 32 := Scalar.select v170 c1_i32_84 c4_i32_82
  let v172 : BitVec 32 := Scalar.remsi v169 v171
  let c0_i32_86 : BitVec 32 := 0#32
  let v174 : BitVec 1 := Scalar.cmpi .slt v172 c0_i32_86
  let c0_i32_87 : BitVec 32 := 0#32
  let v175 : BitVec 1 := Scalar.cmpi .slt v171 c0_i32_87
  let v176 : BitVec 1 := Scalar.xori v174 v175
  let c0_i32_85 : BitVec 32 := 0#32
  let v173 : BitVec 1 := Scalar.cmpi .ne v172 c0_i32_85
  let v177 : BitVec 1 := Scalar.andi v176 v173
  let v178 : BitVec 32 := Scalar.addi v172 v171
  let v179 : BitVec 32 := Scalar.select v177 v178 v172
  let c1_i32_92 : BitVec 32 := 1#32
  let v184 : BitVec 32 := Scalar.muli v179 c1_i32_92
  let v185 : BitVec 32 := Scalar.addi v183 v184
  v185.toNat
def k0_dev2 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v197 : BitVec 32 := Scalar.muli v2 c8_i32_101
  let v198 : BitVec 32 := Scalar.addi c0_i32_102 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v199 : BitVec 32 := Scalar.muli v5 c4_i32_103
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_93 : BitVec 32 := 2#32
  let v186 : BitVec 32 := Scalar.addi v8 c2_i32_93
  let c4_i32_94 : BitVec 32 := 4#32
  let c0_i32_95 : BitVec 32 := 0#32
  let v187 : BitVec 1 := Scalar.cmpi .eq c4_i32_94 c0_i32_95
  let c1_i32_96 : BitVec 32 := 1#32
  let v188 : BitVec 32 := Scalar.select v187 c1_i32_96 c4_i32_94
  let v189 : BitVec 32 := Scalar.remsi v186 v188
  let c0_i32_98 : BitVec 32 := 0#32
  let v191 : BitVec 1 := Scalar.cmpi .slt v189 c0_i32_98
  let c0_i32_99 : BitVec 32 := 0#32
  let v192 : BitVec 1 := Scalar.cmpi .slt v188 c0_i32_99
  let v193 : BitVec 1 := Scalar.xori v191 v192
  let c0_i32_97 : BitVec 32 := 0#32
  let v190 : BitVec 1 := Scalar.cmpi .ne v189 c0_i32_97
  let v194 : BitVec 1 := Scalar.andi v193 v190
  let v195 : BitVec 32 := Scalar.addi v189 v188
  let v196 : BitVec 32 := Scalar.select v194 v195 v189
  let c1_i32_104 : BitVec 32 := 1#32
  let v201 : BitVec 32 := Scalar.muli v196 c1_i32_104
  let v202 : BitVec 32 := Scalar.addi v200 v201
  v202.toNat
def k0_dev3 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v214 : BitVec 32 := Scalar.muli v2 c8_i32_113
  let v215 : BitVec 32 := Scalar.addi c0_i32_114 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v216 : BitVec 32 := Scalar.muli v5 c4_i32_115
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_105 : BitVec 32 := 3#32
  let v203 : BitVec 32 := Scalar.addi v8 c3_i32_105
  let c4_i32_106 : BitVec 32 := 4#32
  let c0_i32_107 : BitVec 32 := 0#32
  let v204 : BitVec 1 := Scalar.cmpi .eq c4_i32_106 c0_i32_107
  let c1_i32_108 : BitVec 32 := 1#32
  let v205 : BitVec 32 := Scalar.select v204 c1_i32_108 c4_i32_106
  let v206 : BitVec 32 := Scalar.remsi v203 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c1_i32_116 : BitVec 32 := 1#32
  let v218 : BitVec 32 := Scalar.muli v213 c1_i32_116
  let v219 : BitVec 32 := Scalar.addi v217 v218
  v219.toNat
def k0_dev4 (d0 : Dev nD) : Nat :=
  let c0_i32_119 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_118 : BitVec 32 := 8#32
  let v220 : BitVec 32 := Scalar.muli v164 c8_i32_118
  let v221 : BitVec 32 := Scalar.addi c0_i32_119 v220
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_120 : BitVec 32 := 4#32
  let v222 : BitVec 32 := Scalar.muli v165 c4_i32_120
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v224 : BitVec 32 := Scalar.muli v8 c1_i32_121
  let v225 : BitVec 32 := Scalar.addi v223 v224
  v225.toNat
def k0_dev5 (d0 : Dev nD) : Nat :=
  let c0_i32_124 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_123 : BitVec 32 := 8#32
  let v226 : BitVec 32 := Scalar.muli v166 c8_i32_123
  let v227 : BitVec 32 := Scalar.addi c0_i32_124 v226
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v228 : BitVec 32 := Scalar.muli v5 c4_i32_125
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v230 : BitVec 32 := Scalar.muli v8 c1_i32_126
  let v231 : BitVec 32 := Scalar.addi v229 v230
  v231.toNat
def k0_dev6 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v232 : BitVec 32 := Scalar.muli v2 c8_i32_128
  let v233 : BitVec 32 := Scalar.addi c0_i32_129 v232
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_130 : BitVec 32 := 4#32
  let v234 : BitVec 32 := Scalar.muli v167 c4_i32_130
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v236 : BitVec 32 := Scalar.muli v8 c1_i32_131
  let v237 : BitVec 32 := Scalar.addi v235 v236
  v237.toNat
def k0_off2 (d0 : Dev nD) (c0_i32_141 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_139 : BitVec 32 := 512#32
  let v249 : BitVec 32 := Scalar.muli v8 c512_i32_139
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.addi v9 v2
  let c128_i32_140 : BitVec 32 := 128#32
  let v250 : BitVec 32 := Scalar.muli v10 c128_i32_140
  let v251 : BitVec 32 := Scalar.addi v249 v250
  let v252 : BitVec 32 := Scalar.addi v251 c0_i32_141
  let c0_i32_149 : BitVec 32 := 0#32
  ![v252.toNat, 0]
def k0_dev7 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v253 : BitVec 32 := Scalar.muli v2 c8_i32_145
  let v254 : BitVec 32 := Scalar.addi c0_i32_146 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v255 : BitVec 32 := Scalar.muli v5 c4_i32_147
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v238 : BitVec 32 := Scalar.addi v8 c1_i32_132
  let c4_i32_133 : BitVec 32 := 4#32
  let c0_i32_134 : BitVec 32 := 0#32
  let v239 : BitVec 1 := Scalar.cmpi .eq c4_i32_133 c0_i32_134
  let c1_i32_135 : BitVec 32 := 1#32
  let v240 : BitVec 32 := Scalar.select v239 c1_i32_135 c4_i32_133
  let v241 : BitVec 32 := Scalar.remsi v238 v240
  let c0_i32_137 : BitVec 32 := 0#32
  let v243 : BitVec 1 := Scalar.cmpi .slt v241 c0_i32_137
  let c0_i32_138 : BitVec 32 := 0#32
  let v244 : BitVec 1 := Scalar.cmpi .slt v240 c0_i32_138
  let v245 : BitVec 1 := Scalar.xori v243 v244
  let c0_i32_136 : BitVec 32 := 0#32
  let v242 : BitVec 1 := Scalar.cmpi .ne v241 c0_i32_136
  let v246 : BitVec 1 := Scalar.andi v245 v242
  let v247 : BitVec 32 := Scalar.addi v241 v240
  let v248 : BitVec 32 := Scalar.select v246 v247 v241
  let c1_i32_148 : BitVec 32 := 1#32
  let v257 : BitVec 32 := Scalar.muli v248 c1_i32_148
  let v258 : BitVec 32 := Scalar.addi v256 v257
  v258.toNat
def k0_dev8 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v270 : BitVec 32 := Scalar.muli v2 c8_i32_158
  let v271 : BitVec 32 := Scalar.addi c0_i32_159 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_160 : BitVec 32 := 4#32
  let v272 : BitVec 32 := Scalar.muli v5 c4_i32_160
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v238 : BitVec 32 := Scalar.addi v8 c1_i32_132
  let c4_i32_133 : BitVec 32 := 4#32
  let c0_i32_134 : BitVec 32 := 0#32
  let v239 : BitVec 1 := Scalar.cmpi .eq c4_i32_133 c0_i32_134
  let c1_i32_135 : BitVec 32 := 1#32
  let v240 : BitVec 32 := Scalar.select v239 c1_i32_135 c4_i32_133
  let v241 : BitVec 32 := Scalar.remsi v238 v240
  let c0_i32_137 : BitVec 32 := 0#32
  let v243 : BitVec 1 := Scalar.cmpi .slt v241 c0_i32_137
  let c0_i32_138 : BitVec 32 := 0#32
  let v244 : BitVec 1 := Scalar.cmpi .slt v240 c0_i32_138
  let v245 : BitVec 1 := Scalar.xori v243 v244
  let c0_i32_136 : BitVec 32 := 0#32
  let v242 : BitVec 1 := Scalar.cmpi .ne v241 c0_i32_136
  let v246 : BitVec 1 := Scalar.andi v245 v242
  let v247 : BitVec 32 := Scalar.addi v241 v240
  let v248 : BitVec 32 := Scalar.select v246 v247 v241
  let c1_i32_161 : BitVec 32 := 1#32
  let v274 : BitVec 32 := Scalar.muli v248 c1_i32_161
  let v275 : BitVec 32 := Scalar.addi v273 v274
  v275.toNat
def k0_dev9 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v287 : BitVec 32 := Scalar.muli v2 c8_i32_171
  let v288 : BitVec 32 := Scalar.addi c0_i32_172 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v289 : BitVec 32 := Scalar.muli v5 c4_i32_173
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v238 : BitVec 32 := Scalar.addi v8 c1_i32_132
  let c4_i32_133 : BitVec 32 := 4#32
  let c0_i32_134 : BitVec 32 := 0#32
  let v239 : BitVec 1 := Scalar.cmpi .eq c4_i32_133 c0_i32_134
  let c1_i32_135 : BitVec 32 := 1#32
  let v240 : BitVec 32 := Scalar.select v239 c1_i32_135 c4_i32_133
  let v241 : BitVec 32 := Scalar.remsi v238 v240
  let c0_i32_137 : BitVec 32 := 0#32
  let v243 : BitVec 1 := Scalar.cmpi .slt v241 c0_i32_137
  let c0_i32_138 : BitVec 32 := 0#32
  let v244 : BitVec 1 := Scalar.cmpi .slt v240 c0_i32_138
  let v245 : BitVec 1 := Scalar.xori v243 v244
  let c0_i32_136 : BitVec 32 := 0#32
  let v242 : BitVec 1 := Scalar.cmpi .ne v241 c0_i32_136
  let v246 : BitVec 1 := Scalar.andi v245 v242
  let v247 : BitVec 32 := Scalar.addi v241 v240
  let v248 : BitVec 32 := Scalar.select v246 v247 v241
  let c1_i32_174 : BitVec 32 := 1#32
  let v291 : BitVec 32 := Scalar.muli v248 c1_i32_174
  let v292 : BitVec 32 := Scalar.addi v290 v291
  v292.toNat
def k0_dev10 (d0 : Dev nD) : Nat :=
  let c0_i32_185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_184 : BitVec 32 := 8#32
  let v304 : BitVec 32 := Scalar.muli v2 c8_i32_184
  let v305 : BitVec 32 := Scalar.addi c0_i32_185 v304
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v306 : BitVec 32 := Scalar.muli v5 c4_i32_186
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v238 : BitVec 32 := Scalar.addi v8 c1_i32_132
  let c4_i32_133 : BitVec 32 := 4#32
  let c0_i32_134 : BitVec 32 := 0#32
  let v239 : BitVec 1 := Scalar.cmpi .eq c4_i32_133 c0_i32_134
  let c1_i32_135 : BitVec 32 := 1#32
  let v240 : BitVec 32 := Scalar.select v239 c1_i32_135 c4_i32_133
  let v241 : BitVec 32 := Scalar.remsi v238 v240
  let c0_i32_137 : BitVec 32 := 0#32
  let v243 : BitVec 1 := Scalar.cmpi .slt v241 c0_i32_137
  let c0_i32_138 : BitVec 32 := 0#32
  let v244 : BitVec 1 := Scalar.cmpi .slt v240 c0_i32_138
  let v245 : BitVec 1 := Scalar.xori v243 v244
  let c0_i32_136 : BitVec 32 := 0#32
  let v242 : BitVec 1 := Scalar.cmpi .ne v241 c0_i32_136
  let v246 : BitVec 1 := Scalar.andi v245 v242
  let v247 : BitVec 32 := Scalar.addi v241 v240
  let v248 : BitVec 32 := Scalar.select v246 v247 v241
  let c1_i32_187 : BitVec 32 := 1#32
  let v308 : BitVec 32 := Scalar.muli v248 c1_i32_187
  let v309 : BitVec 32 := Scalar.addi v307 v308
  v309.toNat
def k0_dev11 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v332 : BitVec 32 := Scalar.muli v2 c8_i32_204
  let v333 : BitVec 32 := Scalar.addi c0_i32_205 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v334 : BitVec 32 := Scalar.muli v5 c4_i32_206
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v317 : BitVec 32 := Scalar.addi v8 c2_i32_191
  let c4_i32_192 : BitVec 32 := 4#32
  let c0_i32_193 : BitVec 32 := 0#32
  let v318 : BitVec 1 := Scalar.cmpi .eq c4_i32_192 c0_i32_193
  let c1_i32_194 : BitVec 32 := 1#32
  let v319 : BitVec 32 := Scalar.select v318 c1_i32_194 c4_i32_192
  let v320 : BitVec 32 := Scalar.remsi v317 v319
  let c0_i32_196 : BitVec 32 := 0#32
  let v322 : BitVec 1 := Scalar.cmpi .slt v320 c0_i32_196
  let c0_i32_197 : BitVec 32 := 0#32
  let v323 : BitVec 1 := Scalar.cmpi .slt v319 c0_i32_197
  let v324 : BitVec 1 := Scalar.xori v322 v323
  let c0_i32_195 : BitVec 32 := 0#32
  let v321 : BitVec 1 := Scalar.cmpi .ne v320 c0_i32_195
  let v325 : BitVec 1 := Scalar.andi v324 v321
  let v326 : BitVec 32 := Scalar.addi v320 v319
  let v327 : BitVec 32 := Scalar.select v325 v326 v320
  let c1_i32_207 : BitVec 32 := 1#32
  let v336 : BitVec 32 := Scalar.muli v327 c1_i32_207
  let v337 : BitVec 32 := Scalar.addi v335 v336
  v337.toNat
def k0_dev12 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v349 : BitVec 32 := Scalar.muli v2 c8_i32_216
  let v350 : BitVec 32 := Scalar.addi c0_i32_217 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v351 : BitVec 32 := Scalar.muli v5 c4_i32_218
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v317 : BitVec 32 := Scalar.addi v8 c2_i32_191
  let c4_i32_192 : BitVec 32 := 4#32
  let c0_i32_193 : BitVec 32 := 0#32
  let v318 : BitVec 1 := Scalar.cmpi .eq c4_i32_192 c0_i32_193
  let c1_i32_194 : BitVec 32 := 1#32
  let v319 : BitVec 32 := Scalar.select v318 c1_i32_194 c4_i32_192
  let v320 : BitVec 32 := Scalar.remsi v317 v319
  let c0_i32_196 : BitVec 32 := 0#32
  let v322 : BitVec 1 := Scalar.cmpi .slt v320 c0_i32_196
  let c0_i32_197 : BitVec 32 := 0#32
  let v323 : BitVec 1 := Scalar.cmpi .slt v319 c0_i32_197
  let v324 : BitVec 1 := Scalar.xori v322 v323
  let c0_i32_195 : BitVec 32 := 0#32
  let v321 : BitVec 1 := Scalar.cmpi .ne v320 c0_i32_195
  let v325 : BitVec 1 := Scalar.andi v324 v321
  let v326 : BitVec 32 := Scalar.addi v320 v319
  let v327 : BitVec 32 := Scalar.select v325 v326 v320
  let c1_i32_219 : BitVec 32 := 1#32
  let v353 : BitVec 32 := Scalar.muli v327 c1_i32_219
  let v354 : BitVec 32 := Scalar.addi v352 v353
  v354.toNat
def k0_dev13 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v366 : BitVec 32 := Scalar.muli v2 c8_i32_229
  let v367 : BitVec 32 := Scalar.addi c0_i32_230 v366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v368 : BitVec 32 := Scalar.muli v5 c4_i32_231
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v317 : BitVec 32 := Scalar.addi v8 c2_i32_191
  let c4_i32_192 : BitVec 32 := 4#32
  let c0_i32_193 : BitVec 32 := 0#32
  let v318 : BitVec 1 := Scalar.cmpi .eq c4_i32_192 c0_i32_193
  let c1_i32_194 : BitVec 32 := 1#32
  let v319 : BitVec 32 := Scalar.select v318 c1_i32_194 c4_i32_192
  let v320 : BitVec 32 := Scalar.remsi v317 v319
  let c0_i32_196 : BitVec 32 := 0#32
  let v322 : BitVec 1 := Scalar.cmpi .slt v320 c0_i32_196
  let c0_i32_197 : BitVec 32 := 0#32
  let v323 : BitVec 1 := Scalar.cmpi .slt v319 c0_i32_197
  let v324 : BitVec 1 := Scalar.xori v322 v323
  let c0_i32_195 : BitVec 32 := 0#32
  let v321 : BitVec 1 := Scalar.cmpi .ne v320 c0_i32_195
  let v325 : BitVec 1 := Scalar.andi v324 v321
  let v326 : BitVec 32 := Scalar.addi v320 v319
  let v327 : BitVec 32 := Scalar.select v325 v326 v320
  let c1_i32_232 : BitVec 32 := 1#32
  let v370 : BitVec 32 := Scalar.muli v327 c1_i32_232
  let v371 : BitVec 32 := Scalar.addi v369 v370
  v371.toNat
def k0_dev14 (d0 : Dev nD) : Nat :=
  let c0_i32_242 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_241 : BitVec 32 := 8#32
  let v383 : BitVec 32 := Scalar.muli v2 c8_i32_241
  let v384 : BitVec 32 := Scalar.addi c0_i32_242 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_243 : BitVec 32 := 4#32
  let v385 : BitVec 32 := Scalar.muli v5 c4_i32_243
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v317 : BitVec 32 := Scalar.addi v8 c2_i32_191
  let c4_i32_192 : BitVec 32 := 4#32
  let c0_i32_193 : BitVec 32 := 0#32
  let v318 : BitVec 1 := Scalar.cmpi .eq c4_i32_192 c0_i32_193
  let c1_i32_194 : BitVec 32 := 1#32
  let v319 : BitVec 32 := Scalar.select v318 c1_i32_194 c4_i32_192
  let v320 : BitVec 32 := Scalar.remsi v317 v319
  let c0_i32_196 : BitVec 32 := 0#32
  let v322 : BitVec 1 := Scalar.cmpi .slt v320 c0_i32_196
  let c0_i32_197 : BitVec 32 := 0#32
  let v323 : BitVec 1 := Scalar.cmpi .slt v319 c0_i32_197
  let v324 : BitVec 1 := Scalar.xori v322 v323
  let c0_i32_195 : BitVec 32 := 0#32
  let v321 : BitVec 1 := Scalar.cmpi .ne v320 c0_i32_195
  let v325 : BitVec 1 := Scalar.andi v324 v321
  let v326 : BitVec 32 := Scalar.addi v320 v319
  let v327 : BitVec 32 := Scalar.select v325 v326 v320
  let c1_i32_244 : BitVec 32 := 1#32
  let v387 : BitVec 32 := Scalar.muli v327 c1_i32_244
  let v388 : BitVec 32 := Scalar.addi v386 v387
  v388.toNat
def k0_dev15 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v411 : BitVec 32 := Scalar.muli v2 c8_i32_261
  let v412 : BitVec 32 := Scalar.addi c0_i32_262 v411
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v413 : BitVec 32 := Scalar.muli v5 c4_i32_263
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v396 : BitVec 32 := Scalar.addi v8 c3_i32_248
  let c4_i32_249 : BitVec 32 := 4#32
  let c0_i32_250 : BitVec 32 := 0#32
  let v397 : BitVec 1 := Scalar.cmpi .eq c4_i32_249 c0_i32_250
  let c1_i32_251 : BitVec 32 := 1#32
  let v398 : BitVec 32 := Scalar.select v397 c1_i32_251 c4_i32_249
  let v399 : BitVec 32 := Scalar.remsi v396 v398
  let c0_i32_253 : BitVec 32 := 0#32
  let v401 : BitVec 1 := Scalar.cmpi .slt v399 c0_i32_253
  let c0_i32_254 : BitVec 32 := 0#32
  let v402 : BitVec 1 := Scalar.cmpi .slt v398 c0_i32_254
  let v403 : BitVec 1 := Scalar.xori v401 v402
  let c0_i32_252 : BitVec 32 := 0#32
  let v400 : BitVec 1 := Scalar.cmpi .ne v399 c0_i32_252
  let v404 : BitVec 1 := Scalar.andi v403 v400
  let v405 : BitVec 32 := Scalar.addi v399 v398
  let v406 : BitVec 32 := Scalar.select v404 v405 v399
  let c1_i32_264 : BitVec 32 := 1#32
  let v415 : BitVec 32 := Scalar.muli v406 c1_i32_264
  let v416 : BitVec 32 := Scalar.addi v414 v415
  v416.toNat
def k0_dev16 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v428 : BitVec 32 := Scalar.muli v2 c8_i32_273
  let v429 : BitVec 32 := Scalar.addi c0_i32_274 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_275 : BitVec 32 := 4#32
  let v430 : BitVec 32 := Scalar.muli v5 c4_i32_275
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v396 : BitVec 32 := Scalar.addi v8 c3_i32_248
  let c4_i32_249 : BitVec 32 := 4#32
  let c0_i32_250 : BitVec 32 := 0#32
  let v397 : BitVec 1 := Scalar.cmpi .eq c4_i32_249 c0_i32_250
  let c1_i32_251 : BitVec 32 := 1#32
  let v398 : BitVec 32 := Scalar.select v397 c1_i32_251 c4_i32_249
  let v399 : BitVec 32 := Scalar.remsi v396 v398
  let c0_i32_253 : BitVec 32 := 0#32
  let v401 : BitVec 1 := Scalar.cmpi .slt v399 c0_i32_253
  let c0_i32_254 : BitVec 32 := 0#32
  let v402 : BitVec 1 := Scalar.cmpi .slt v398 c0_i32_254
  let v403 : BitVec 1 := Scalar.xori v401 v402
  let c0_i32_252 : BitVec 32 := 0#32
  let v400 : BitVec 1 := Scalar.cmpi .ne v399 c0_i32_252
  let v404 : BitVec 1 := Scalar.andi v403 v400
  let v405 : BitVec 32 := Scalar.addi v399 v398
  let v406 : BitVec 32 := Scalar.select v404 v405 v399
  let c1_i32_276 : BitVec 32 := 1#32
  let v432 : BitVec 32 := Scalar.muli v406 c1_i32_276
  let v433 : BitVec 32 := Scalar.addi v431 v432
  v433.toNat
def k0_dev17 (d0 : Dev nD) : Nat :=
  let c0_i32_286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_285 : BitVec 32 := 8#32
  let v445 : BitVec 32 := Scalar.muli v2 c8_i32_285
  let v446 : BitVec 32 := Scalar.addi c0_i32_286 v445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_287 : BitVec 32 := 4#32
  let v447 : BitVec 32 := Scalar.muli v5 c4_i32_287
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v396 : BitVec 32 := Scalar.addi v8 c3_i32_248
  let c4_i32_249 : BitVec 32 := 4#32
  let c0_i32_250 : BitVec 32 := 0#32
  let v397 : BitVec 1 := Scalar.cmpi .eq c4_i32_249 c0_i32_250
  let c1_i32_251 : BitVec 32 := 1#32
  let v398 : BitVec 32 := Scalar.select v397 c1_i32_251 c4_i32_249
  let v399 : BitVec 32 := Scalar.remsi v396 v398
  let c0_i32_253 : BitVec 32 := 0#32
  let v401 : BitVec 1 := Scalar.cmpi .slt v399 c0_i32_253
  let c0_i32_254 : BitVec 32 := 0#32
  let v402 : BitVec 1 := Scalar.cmpi .slt v398 c0_i32_254
  let v403 : BitVec 1 := Scalar.xori v401 v402
  let c0_i32_252 : BitVec 32 := 0#32
  let v400 : BitVec 1 := Scalar.cmpi .ne v399 c0_i32_252
  let v404 : BitVec 1 := Scalar.andi v403 v400
  let v405 : BitVec 32 := Scalar.addi v399 v398
  let v406 : BitVec 32 := Scalar.select v404 v405 v399
  let c1_i32_288 : BitVec 32 := 1#32
  let v449 : BitVec 32 := Scalar.muli v406 c1_i32_288
  let v450 : BitVec 32 := Scalar.addi v448 v449
  v450.toNat
def k0_dev18 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v462 : BitVec 32 := Scalar.muli v2 c8_i32_297
  let v463 : BitVec 32 := Scalar.addi c0_i32_298 v462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_299 : BitVec 32 := 4#32
  let v464 : BitVec 32 := Scalar.muli v5 c4_i32_299
  let v465 : BitVec 32 := Scalar.addi v463 v464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v396 : BitVec 32 := Scalar.addi v8 c3_i32_248
  let c4_i32_249 : BitVec 32 := 4#32
  let c0_i32_250 : BitVec 32 := 0#32
  let v397 : BitVec 1 := Scalar.cmpi .eq c4_i32_249 c0_i32_250
  let c1_i32_251 : BitVec 32 := 1#32
  let v398 : BitVec 32 := Scalar.select v397 c1_i32_251 c4_i32_249
  let v399 : BitVec 32 := Scalar.remsi v396 v398
  let c0_i32_253 : BitVec 32 := 0#32
  let v401 : BitVec 1 := Scalar.cmpi .slt v399 c0_i32_253
  let c0_i32_254 : BitVec 32 := 0#32
  let v402 : BitVec 1 := Scalar.cmpi .slt v398 c0_i32_254
  let v403 : BitVec 1 := Scalar.xori v401 v402
  let c0_i32_252 : BitVec 32 := 0#32
  let v400 : BitVec 1 := Scalar.cmpi .ne v399 c0_i32_252
  let v404 : BitVec 1 := Scalar.andi v403 v400
  let v405 : BitVec 32 := Scalar.addi v399 v398
  let v406 : BitVec 32 := Scalar.select v404 v405 v399
  let c1_i32_300 : BitVec 32 := 1#32
  let v466 : BitVec 32 := Scalar.muli v406 c1_i32_300
  let v467 : BitVec 32 := Scalar.addi v465 v466
  v467.toNat
def k0_off3 (d0 : Dev nD) : Fin 2 → Nat :=
  let c0_305 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_304 : BitVec 32 := 512#32
  let v475 : BitVec 32 := Scalar.muli v8 c512_i32_304
  let v476 : Index := Scalar.indexCast v475
  ![0, v476.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_306 : BitVec 32 := 512#32
  let v479 : BitVec 32 := Scalar.muli v8 c512_i32_306
  let v480 : Index := Scalar.indexCast v479
  let c0_307 : Index := 0#32
  ![v480.toNat, 0]
def k0_off5 (d0 : Dev nD) (c1_i32_308 : BitVec 32) (c0_i32_327 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v482 : BitVec 32 := Scalar.subi v8 c1_i32_308
  let c4_i32_309 : BitVec 32 := 4#32
  let c0_i32_310 : BitVec 32 := 0#32
  let v483 : BitVec 1 := Scalar.cmpi .eq c4_i32_309 c0_i32_310
  let c1_i32_311 : BitVec 32 := 1#32
  let v484 : BitVec 32 := Scalar.select v483 c1_i32_311 c4_i32_309
  let v485 : BitVec 32 := Scalar.remsi v482 v484
  let c0_i32_313 : BitVec 32 := 0#32
  let v487 : BitVec 1 := Scalar.cmpi .slt v485 c0_i32_313
  let c0_i32_314 : BitVec 32 := 0#32
  let v488 : BitVec 1 := Scalar.cmpi .slt v484 c0_i32_314
  let v489 : BitVec 1 := Scalar.xori v487 v488
  let c0_i32_312 : BitVec 32 := 0#32
  let v486 : BitVec 1 := Scalar.cmpi .ne v485 c0_i32_312
  let v490 : BitVec 1 := Scalar.andi v489 v486
  let v491 : BitVec 32 := Scalar.addi v485 v484
  let v492 : BitVec 32 := Scalar.select v490 v491 v485
  let c512_i32_325 : BitVec 32 := 512#32
  let v504 : BitVec 32 := Scalar.muli v492 c512_i32_325
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.addi v9 v2
  let c128_i32_326 : BitVec 32 := 128#32
  let v505 : BitVec 32 := Scalar.muli v10 c128_i32_326
  let v506 : BitVec 32 := Scalar.addi v504 v505
  let v507 : BitVec 32 := Scalar.addi v506 c0_i32_327
  let c0_i32_334 : BitVec 32 := 0#32
  ![v507.toNat, 0]
def k0_dev19 (d0 : Dev nD) : Nat :=
  let c0_i32_331 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_330 : BitVec 32 := 8#32
  let v508 : BitVec 32 := Scalar.muli v164 c8_i32_330
  let v509 : BitVec 32 := Scalar.addi c0_i32_331 v508
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_332 : BitVec 32 := 4#32
  let v510 : BitVec 32 := Scalar.muli v165 c4_i32_332
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v512 : BitVec 32 := Scalar.muli v8 c1_i32_333
  let v513 : BitVec 32 := Scalar.addi v511 v512
  v513.toNat
def k0_dev20 (d0 : Dev nD) : Nat :=
  let c0_i32_339 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_338 : BitVec 32 := 8#32
  let v520 : BitVec 32 := Scalar.muli v166 c8_i32_338
  let v521 : BitVec 32 := Scalar.addi c0_i32_339 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_340 : BitVec 32 := 4#32
  let v522 : BitVec 32 := Scalar.muli v5 c4_i32_340
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v524 : BitVec 32 := Scalar.muli v8 c1_i32_341
  let v525 : BitVec 32 := Scalar.addi v523 v524
  v525.toNat
def k0_dev21 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_346 : BitVec 32 := 8#32
  let v532 : BitVec 32 := Scalar.muli v2 c8_i32_346
  let v533 : BitVec 32 := Scalar.addi c0_i32_347 v532
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_348 : BitVec 32 := 4#32
  let v534 : BitVec 32 := Scalar.muli v167 c4_i32_348
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v536 : BitVec 32 := Scalar.muli v8 c1_i32_349
  let v537 : BitVec 32 := Scalar.addi v535 v536
  v537.toNat
def k0_dev22 (d0 : Dev nD) : Nat :=
  let c0_i32_368 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_367 : BitVec 32 := 8#32
  let v559 : BitVec 32 := Scalar.muli v164 c8_i32_367
  let v560 : BitVec 32 := Scalar.addi c0_i32_368 v559
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_369 : BitVec 32 := 4#32
  let v561 : BitVec 32 := Scalar.muli v165 c4_i32_369
  let v562 : BitVec 32 := Scalar.addi v560 v561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v563 : BitVec 32 := Scalar.muli v8 c1_i32_370
  let v564 : BitVec 32 := Scalar.addi v562 v563
  v564.toNat
def k0_dev23 (d0 : Dev nD) : Nat :=
  let c0_i32_376 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_375 : BitVec 32 := 8#32
  let v571 : BitVec 32 := Scalar.muli v166 c8_i32_375
  let v572 : BitVec 32 := Scalar.addi c0_i32_376 v571
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v573 : BitVec 32 := Scalar.muli v5 c4_i32_377
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v575 : BitVec 32 := Scalar.muli v8 c1_i32_378
  let v576 : BitVec 32 := Scalar.addi v574 v575
  v576.toNat
def k0_dev24 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v583 : BitVec 32 := Scalar.muli v2 c8_i32_383
  let v584 : BitVec 32 := Scalar.addi c0_i32_384 v583
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_385 : BitVec 32 := 4#32
  let v585 : BitVec 32 := Scalar.muli v167 c4_i32_385
  let v586 : BitVec 32 := Scalar.addi v584 v585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v587 : BitVec 32 := Scalar.muli v8 c1_i32_386
  let v588 : BitVec 32 := Scalar.addi v586 v587
  v588.toNat
def k0_dev25 (d0 : Dev nD) : Nat :=
  let c0_i32_405 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_404 : BitVec 32 := 8#32
  let v610 : BitVec 32 := Scalar.muli v164 c8_i32_404
  let v611 : BitVec 32 := Scalar.addi c0_i32_405 v610
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_406 : BitVec 32 := 4#32
  let v612 : BitVec 32 := Scalar.muli v165 c4_i32_406
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v614 : BitVec 32 := Scalar.muli v8 c1_i32_407
  let v615 : BitVec 32 := Scalar.addi v613 v614
  v615.toNat
def k0_dev26 (d0 : Dev nD) : Nat :=
  let c0_i32_413 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_412 : BitVec 32 := 8#32
  let v622 : BitVec 32 := Scalar.muli v166 c8_i32_412
  let v623 : BitVec 32 := Scalar.addi c0_i32_413 v622
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v624 : BitVec 32 := Scalar.muli v5 c4_i32_414
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v626 : BitVec 32 := Scalar.muli v8 c1_i32_415
  let v627 : BitVec 32 := Scalar.addi v625 v626
  v627.toNat
def k0_dev27 (d0 : Dev nD) : Nat :=
  let c0_i32_421 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_420 : BitVec 32 := 8#32
  let v634 : BitVec 32 := Scalar.muli v2 c8_i32_420
  let v635 : BitVec 32 := Scalar.addi c0_i32_421 v634
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_422 : BitVec 32 := 4#32
  let v636 : BitVec 32 := Scalar.muli v167 c4_i32_422
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v638 : BitVec 32 := Scalar.muli v8 c1_i32_423
  let v639 : BitVec 32 := Scalar.addi v637 v638
  v639.toNat
def k0_dev28 (d0 : Dev nD) : Nat :=
  let c0_i32_442 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_441 : BitVec 32 := 8#32
  let v661 : BitVec 32 := Scalar.muli v164 c8_i32_441
  let v662 : BitVec 32 := Scalar.addi c0_i32_442 v661
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_443 : BitVec 32 := 4#32
  let v663 : BitVec 32 := Scalar.muli v165 c4_i32_443
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v665 : BitVec 32 := Scalar.muli v8 c1_i32_444
  let v666 : BitVec 32 := Scalar.addi v664 v665
  v666.toNat
def k0_dev29 (d0 : Dev nD) : Nat :=
  let c0_i32_450 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_449 : BitVec 32 := 8#32
  let v673 : BitVec 32 := Scalar.muli v166 c8_i32_449
  let v674 : BitVec 32 := Scalar.addi c0_i32_450 v673
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_451 : BitVec 32 := 4#32
  let v675 : BitVec 32 := Scalar.muli v5 c4_i32_451
  let v676 : BitVec 32 := Scalar.addi v674 v675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_452 : BitVec 32 := 1#32
  let v677 : BitVec 32 := Scalar.muli v8 c1_i32_452
  let v678 : BitVec 32 := Scalar.addi v676 v677
  v678.toNat
def k0_dev30 (d0 : Dev nD) : Nat :=
  let c0_i32_458 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_457 : BitVec 32 := 8#32
  let v685 : BitVec 32 := Scalar.muli v2 c8_i32_457
  let v686 : BitVec 32 := Scalar.addi c0_i32_458 v685
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_459 : BitVec 32 := 4#32
  let v687 : BitVec 32 := Scalar.muli v167 c4_i32_459
  let v688 : BitVec 32 := Scalar.addi v686 v687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v689 : BitVec 32 := Scalar.muli v8 c1_i32_460
  let v690 : BitVec 32 := Scalar.addi v688 v689
  v690.toNat
def k0_dev31 (d0 : Dev nD) : Nat :=
  let c0_i32_485 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_484 : BitVec 32 := 8#32
  let v723 : BitVec 32 := Scalar.muli v164 c8_i32_484
  let v724 : BitVec 32 := Scalar.addi c0_i32_485 v723
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_486 : BitVec 32 := 4#32
  let v725 : BitVec 32 := Scalar.muli v165 c4_i32_486
  let v726 : BitVec 32 := Scalar.addi v724 v725
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v727 : BitVec 32 := Scalar.muli v8 c1_i32_487
  let v728 : BitVec 32 := Scalar.addi v726 v727
  v728.toNat
def k0_dev32 (d0 : Dev nD) : Nat :=
  let c0_i32_492 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_491 : BitVec 32 := 8#32
  let v735 : BitVec 32 := Scalar.muli v166 c8_i32_491
  let v736 : BitVec 32 := Scalar.addi c0_i32_492 v735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_493 : BitVec 32 := 4#32
  let v737 : BitVec 32 := Scalar.muli v5 c4_i32_493
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v739 : BitVec 32 := Scalar.muli v8 c1_i32_494
  let v740 : BitVec 32 := Scalar.addi v738 v739
  v740.toNat
def k0_dev33 (d0 : Dev nD) : Nat :=
  let c0_i32_499 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_498 : BitVec 32 := 8#32
  let v747 : BitVec 32 := Scalar.muli v2 c8_i32_498
  let v748 : BitVec 32 := Scalar.addi c0_i32_499 v747
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_500 : BitVec 32 := 4#32
  let v749 : BitVec 32 := Scalar.muli v167 c4_i32_500
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v751 : BitVec 32 := Scalar.muli v8 c1_i32_501
  let v752 : BitVec 32 := Scalar.addi v750 v751
  v752.toNat
def k0_dev34 (d0 : Dev nD) : Nat :=
  let c0_i32_519 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_518 : BitVec 32 := 8#32
  let v774 : BitVec 32 := Scalar.muli v164 c8_i32_518
  let v775 : BitVec 32 := Scalar.addi c0_i32_519 v774
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_520 : BitVec 32 := 4#32
  let v776 : BitVec 32 := Scalar.muli v165 c4_i32_520
  let v777 : BitVec 32 := Scalar.addi v775 v776
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_521 : BitVec 32 := 1#32
  let v778 : BitVec 32 := Scalar.muli v8 c1_i32_521
  let v779 : BitVec 32 := Scalar.addi v777 v778
  v779.toNat
def k0_dev35 (d0 : Dev nD) : Nat :=
  let c0_i32_526 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_525 : BitVec 32 := 8#32
  let v786 : BitVec 32 := Scalar.muli v166 c8_i32_525
  let v787 : BitVec 32 := Scalar.addi c0_i32_526 v786
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_527 : BitVec 32 := 4#32
  let v788 : BitVec 32 := Scalar.muli v5 c4_i32_527
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v790 : BitVec 32 := Scalar.muli v8 c1_i32_528
  let v791 : BitVec 32 := Scalar.addi v789 v790
  v791.toNat
def k0_dev36 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v798 : BitVec 32 := Scalar.muli v2 c8_i32_532
  let v799 : BitVec 32 := Scalar.addi c0_i32_533 v798
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_534 : BitVec 32 := 4#32
  let v800 : BitVec 32 := Scalar.muli v167 c4_i32_534
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v802 : BitVec 32 := Scalar.muli v8 c1_i32_535
  let v803 : BitVec 32 := Scalar.addi v801 v802
  v803.toNat
def k0_dev37 (d0 : Dev nD) : Nat :=
  let c0_i32_553 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_552 : BitVec 32 := 8#32
  let v825 : BitVec 32 := Scalar.muli v164 c8_i32_552
  let v826 : BitVec 32 := Scalar.addi c0_i32_553 v825
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_554 : BitVec 32 := 4#32
  let v827 : BitVec 32 := Scalar.muli v165 c4_i32_554
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_555 : BitVec 32 := 1#32
  let v829 : BitVec 32 := Scalar.muli v8 c1_i32_555
  let v830 : BitVec 32 := Scalar.addi v828 v829
  v830.toNat
def k0_dev38 (d0 : Dev nD) : Nat :=
  let c0_i32_560 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_559 : BitVec 32 := 8#32
  let v837 : BitVec 32 := Scalar.muli v166 c8_i32_559
  let v838 : BitVec 32 := Scalar.addi c0_i32_560 v837
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_561 : BitVec 32 := 4#32
  let v839 : BitVec 32 := Scalar.muli v5 c4_i32_561
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v841 : BitVec 32 := Scalar.muli v8 c1_i32_562
  let v842 : BitVec 32 := Scalar.addi v840 v841
  v842.toNat
def k0_dev39 (d0 : Dev nD) : Nat :=
  let c0_i32_567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_566 : BitVec 32 := 8#32
  let v849 : BitVec 32 := Scalar.muli v2 c8_i32_566
  let v850 : BitVec 32 := Scalar.addi c0_i32_567 v849
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_568 : BitVec 32 := 4#32
  let v851 : BitVec 32 := Scalar.muli v167 c4_i32_568
  let v852 : BitVec 32 := Scalar.addi v850 v851
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v853 : BitVec 32 := Scalar.muli v8 c1_i32_569
  let v854 : BitVec 32 := Scalar.addi v852 v853
  v854.toNat
def k0_dev40 (d0 : Dev nD) : Nat :=
  let c0_i32_587 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_586 : BitVec 32 := 8#32
  let v876 : BitVec 32 := Scalar.muli v164 c8_i32_586
  let v877 : BitVec 32 := Scalar.addi c0_i32_587 v876
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_588 : BitVec 32 := 4#32
  let v878 : BitVec 32 := Scalar.muli v165 c4_i32_588
  let v879 : BitVec 32 := Scalar.addi v877 v878
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_589 : BitVec 32 := 1#32
  let v880 : BitVec 32 := Scalar.muli v8 c1_i32_589
  let v881 : BitVec 32 := Scalar.addi v879 v880
  v881.toNat
def k0_dev41 (d0 : Dev nD) : Nat :=
  let c0_i32_594 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_593 : BitVec 32 := 8#32
  let v888 : BitVec 32 := Scalar.muli v166 c8_i32_593
  let v889 : BitVec 32 := Scalar.addi c0_i32_594 v888
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_595 : BitVec 32 := 4#32
  let v890 : BitVec 32 := Scalar.muli v5 c4_i32_595
  let v891 : BitVec 32 := Scalar.addi v889 v890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v892 : BitVec 32 := Scalar.muli v8 c1_i32_596
  let v893 : BitVec 32 := Scalar.addi v891 v892
  v893.toNat
def k0_dev42 (d0 : Dev nD) : Nat :=
  let c0_i32_601 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_600 : BitVec 32 := 8#32
  let v900 : BitVec 32 := Scalar.muli v2 c8_i32_600
  let v901 : BitVec 32 := Scalar.addi c0_i32_601 v900
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_602 : BitVec 32 := 4#32
  let v902 : BitVec 32 := Scalar.muli v167 c4_i32_602
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v904 : BitVec 32 := Scalar.muli v8 c1_i32_603
  let v905 : BitVec 32 := Scalar.addi v903 v904
  v905.toNat
def k0_dev43 (d0 : Dev nD) : Nat :=
  let c0_i32_628 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_627 : BitVec 32 := 8#32
  let v938 : BitVec 32 := Scalar.muli v164 c8_i32_627
  let v939 : BitVec 32 := Scalar.addi c0_i32_628 v938
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_629 : BitVec 32 := 4#32
  let v940 : BitVec 32 := Scalar.muli v165 c4_i32_629
  let v941 : BitVec 32 := Scalar.addi v939 v940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_630 : BitVec 32 := 1#32
  let v942 : BitVec 32 := Scalar.muli v8 c1_i32_630
  let v943 : BitVec 32 := Scalar.addi v941 v942
  v943.toNat
def k0_dev44 (d0 : Dev nD) : Nat :=
  let c0_i32_635 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_634 : BitVec 32 := 8#32
  let v950 : BitVec 32 := Scalar.muli v166 c8_i32_634
  let v951 : BitVec 32 := Scalar.addi c0_i32_635 v950
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_636 : BitVec 32 := 4#32
  let v952 : BitVec 32 := Scalar.muli v5 c4_i32_636
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_637 : BitVec 32 := 1#32
  let v954 : BitVec 32 := Scalar.muli v8 c1_i32_637
  let v955 : BitVec 32 := Scalar.addi v953 v954
  v955.toNat
def k0_dev45 (d0 : Dev nD) : Nat :=
  let c0_i32_642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_641 : BitVec 32 := 8#32
  let v962 : BitVec 32 := Scalar.muli v2 c8_i32_641
  let v963 : BitVec 32 := Scalar.addi c0_i32_642 v962
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_643 : BitVec 32 := 4#32
  let v964 : BitVec 32 := Scalar.muli v167 c4_i32_643
  let v965 : BitVec 32 := Scalar.addi v963 v964
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v966 : BitVec 32 := Scalar.muli v8 c1_i32_644
  let v967 : BitVec 32 := Scalar.addi v965 v966
  v967.toNat
def k0_dev46 (d0 : Dev nD) : Nat :=
  let c0_i32_662 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_661 : BitVec 32 := 8#32
  let v989 : BitVec 32 := Scalar.muli v164 c8_i32_661
  let v990 : BitVec 32 := Scalar.addi c0_i32_662 v989
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_663 : BitVec 32 := 4#32
  let v991 : BitVec 32 := Scalar.muli v165 c4_i32_663
  let v992 : BitVec 32 := Scalar.addi v990 v991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_664 : BitVec 32 := 1#32
  let v993 : BitVec 32 := Scalar.muli v8 c1_i32_664
  let v994 : BitVec 32 := Scalar.addi v992 v993
  v994.toNat
def k0_dev47 (d0 : Dev nD) : Nat :=
  let c0_i32_669 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_668 : BitVec 32 := 8#32
  let v1001 : BitVec 32 := Scalar.muli v166 c8_i32_668
  let v1002 : BitVec 32 := Scalar.addi c0_i32_669 v1001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v1003 : BitVec 32 := Scalar.muli v5 c4_i32_670
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_671 : BitVec 32 := 1#32
  let v1005 : BitVec 32 := Scalar.muli v8 c1_i32_671
  let v1006 : BitVec 32 := Scalar.addi v1004 v1005
  v1006.toNat
def k0_dev48 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v1013 : BitVec 32 := Scalar.muli v2 c8_i32_675
  let v1014 : BitVec 32 := Scalar.addi c0_i32_676 v1013
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_677 : BitVec 32 := 4#32
  let v1015 : BitVec 32 := Scalar.muli v167 c4_i32_677
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_678 : BitVec 32 := 1#32
  let v1017 : BitVec 32 := Scalar.muli v8 c1_i32_678
  let v1018 : BitVec 32 := Scalar.addi v1016 v1017
  v1018.toNat
def k0_dev49 (d0 : Dev nD) : Nat :=
  let c0_i32_696 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_695 : BitVec 32 := 8#32
  let v1040 : BitVec 32 := Scalar.muli v164 c8_i32_695
  let v1041 : BitVec 32 := Scalar.addi c0_i32_696 v1040
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_697 : BitVec 32 := 4#32
  let v1042 : BitVec 32 := Scalar.muli v165 c4_i32_697
  let v1043 : BitVec 32 := Scalar.addi v1041 v1042
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_698 : BitVec 32 := 1#32
  let v1044 : BitVec 32 := Scalar.muli v8 c1_i32_698
  let v1045 : BitVec 32 := Scalar.addi v1043 v1044
  v1045.toNat
def k0_dev50 (d0 : Dev nD) : Nat :=
  let c0_i32_703 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_702 : BitVec 32 := 8#32
  let v1052 : BitVec 32 := Scalar.muli v166 c8_i32_702
  let v1053 : BitVec 32 := Scalar.addi c0_i32_703 v1052
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_704 : BitVec 32 := 4#32
  let v1054 : BitVec 32 := Scalar.muli v5 c4_i32_704
  let v1055 : BitVec 32 := Scalar.addi v1053 v1054
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v1056 : BitVec 32 := Scalar.muli v8 c1_i32_705
  let v1057 : BitVec 32 := Scalar.addi v1055 v1056
  v1057.toNat
def k0_dev51 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v1064 : BitVec 32 := Scalar.muli v2 c8_i32_710
  let v1065 : BitVec 32 := Scalar.addi c0_i32_711 v1064
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_712 : BitVec 32 := 4#32
  let v1066 : BitVec 32 := Scalar.muli v167 c4_i32_712
  let v1067 : BitVec 32 := Scalar.addi v1065 v1066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v1068 : BitVec 32 := Scalar.muli v8 c1_i32_713
  let v1069 : BitVec 32 := Scalar.addi v1067 v1068
  v1069.toNat
def k0_dev52 (d0 : Dev nD) : Nat :=
  let c0_i32_731 : BitVec 32 := 0#32
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v164 : BitVec 32 := Scalar.subi c1_i32_77 v2
  let c8_i32_730 : BitVec 32 := 8#32
  let v1091 : BitVec 32 := Scalar.muli v164 c8_i32_730
  let v1092 : BitVec 32 := Scalar.addi c0_i32_731 v1091
  let c1_i32_78 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_78 v5
  let c4_i32_732 : BitVec 32 := 4#32
  let v1093 : BitVec 32 := Scalar.muli v165 c4_i32_732
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733 : BitVec 32 := 1#32
  let v1095 : BitVec 32 := Scalar.muli v8 c1_i32_733
  let v1096 : BitVec 32 := Scalar.addi v1094 v1095
  v1096.toNat
def k0_dev53 (d0 : Dev nD) : Nat :=
  let c0_i32_738 : BitVec 32 := 0#32
  let c1_i32_79 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v166 : BitVec 32 := Scalar.subi c1_i32_79 v2
  let c8_i32_737 : BitVec 32 := 8#32
  let v1103 : BitVec 32 := Scalar.muli v166 c8_i32_737
  let v1104 : BitVec 32 := Scalar.addi c0_i32_738 v1103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_739 : BitVec 32 := 4#32
  let v1105 : BitVec 32 := Scalar.muli v5 c4_i32_739
  let v1106 : BitVec 32 := Scalar.addi v1104 v1105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v1107 : BitVec 32 := Scalar.muli v8 c1_i32_740
  let v1108 : BitVec 32 := Scalar.addi v1106 v1107
  v1108.toNat
def k0_dev54 (d0 : Dev nD) : Nat :=
  let c0_i32_745 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_744 : BitVec 32 := 8#32
  let v1115 : BitVec 32 := Scalar.muli v2 c8_i32_744
  let v1116 : BitVec 32 := Scalar.addi c0_i32_745 v1115
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v167 : BitVec 32 := Scalar.subi c1_i32_80 v5
  let c4_i32_746 : BitVec 32 := 4#32
  let v1117 : BitVec 32 := Scalar.muli v167 c4_i32_746
  let v1118 : BitVec 32 := Scalar.addi v1116 v1117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_747 : BitVec 32 := 1#32
  let v1119 : BitVec 32 := Scalar.muli v8 c1_i32_747
  let v1120 : BitVec 32 := Scalar.addi v1118 v1119
  v1120.toNat
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/-
# The all-to-all's geometry

The sixteen devices form a 2×2×4 mesh (x, y, z), device `8x + 4y + z`. Each holds four planes of the exchange: its
plane `z` and one of four positions `q = 2y + x` within the plane. The result buffer of a device is 64 chunks of 32
rows. A device keeps its own sixteen chunks, receives twelve from the three other planes at its own position, and
receives each of the remaining thirty-six from one of the three other positions of its own plane.

This module fixes the numbering of devices, chunks and staged slots, states the printed offset and device chains in that
numbering, and gives the contents every buffer is to hold.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.Sem

variable {F : FTy → Type} [FloatOps F]

/-! ## Devices -/

/-- The plane of a device: its coordinate along the exchanged mesh axis. -/
def zc (c : Dev nD) : ℕ := c.val % 4
/-- The position of a device within its plane. -/
def qc (c : Dev nD) : ℕ := 2 * ((c.val / 4) % 2) + c.val / 8

set_option backward.proofsInPublic true in
/-- The device at position `q` of plane `z`. -/
def devOf (q z : ℕ) : Dev nD :=
  ⟨8 * (q % 2) + 4 * ((q / 2) % 2) + z % 4, by show _ < 16; omega⟩

/-- The device that staged block `k` goes to: the same position, `k / 4 + 1` planes on. -/
def zdst (k : ℕ) (c : Dev nD) : Dev nD := devOf (qc c) (zc c + k / 4 + 1)
/-- The device that staged block `k` comes from. -/
def zsrc (k : ℕ) (c : Dev nD) : Dev nD := devOf (qc c) (zc c + 3 - k / 4 % 4)

/-- The position within a plane that copy `j` pairs a position with. -/
def qpeer (j q : ℕ) : ℕ := match j % 3 with | 0 => 3 - q | 1 => q + 1 - 2 * (q % 2) | _ => q + 2
/-- The device of the same plane that copy `j` pairs a device with. -/
def peer (j : ℕ) (c : Dev nD) : Dev nD := devOf (qpeer j (qc c)) (zc c)

/-- The device the `s`-th entry signal goes to. -/
def sdst (s : ℕ) (c : Dev nD) : Dev nD := if s < 3 then zdst (4 * s) c else peer (s - 3) c

/-- The chunk of the result that block `k` lands in, on the device receiving it. -/
def zblk (c : Dev nD) (k : ℕ) : ℕ := 16 * ((zc c + 3 - k / 4 % 4) % 4) + 4 * qc c + k % 4
/-- The chunk of the result that in-plane copy `j` lands in, on the device receiving it. -/
def pblk (c : Dev nD) (j : ℕ) : ℕ := zblk (peer j c) (j / 3)

theorem zdst_zsrc : ∀ (k : Fin 12) (c : Dev nD), zdst k (zsrc k c) = c := by decide +kernel
theorem zsrc_zdst : ∀ (k : Fin 12) (c : Dev nD), zsrc k (zdst k c) = c := by decide +kernel
theorem peer_mod (j : ℕ) (c : Dev nD) : peer j c = peer (j % 3) c := by
  unfold peer qpeer; rw [Nat.mod_mod]
theorem peer_peer_fin : ∀ (j : Fin 3) (c : Dev nD), peer j (peer j c) = c := by decide +kernel
theorem peer_peer (j : ℕ) (c : Dev nD) : peer j (peer j c) = c := by
  rw [peer_mod j, peer_mod j c]; exact peer_peer_fin ⟨j % 3, Nat.mod_lt _ (by decide)⟩ c
theorem zc_peer_fin : ∀ (j : Fin 3) (c : Dev nD), zc (peer j c) = zc c := by decide +kernel
theorem zc_peer (j : ℕ) (c : Dev nD) : zc (peer j c) = zc c := by
  rw [peer_mod]; exact zc_peer_fin ⟨j % 3, Nat.mod_lt _ (by decide)⟩ c
theorem zc_zdst_fin : ∀ (k : Fin 12) (c : Dev nD), zc (zdst k c) = (zc c + k / 4 + 1) % 4 := by decide +kernel
theorem zc_lt (c : Dev nD) : zc c < 4 := Nat.mod_lt _ (by decide)
theorem qc_lt (c : Dev nD) : qc c < 4 := by have : c.val < 16 := c.isLt; unfold qc; omega

/-! ## Where the chunks lie -/

theorem zblk_lt (c : Dev nD) (k : ℕ) : zblk c k < 64 := by have := qc_lt c; unfold zblk; omega
theorem pblk_lt (c : Dev nD) (j : ℕ) : pblk c j < 64 := zblk_lt _ _
/-- A block lands, on its destination, at the rows of the sender's plane and position. -/
theorem zblk_zdst : ∀ (k : Fin 12) (c : Dev nD), zblk (zdst k c) k = 16 * zc c + 4 * qc c + k % 4 := by decide +kernel
theorem zblk_not_own : ∀ (k : Fin 12) (c : Dev nD), zblk c k / 16 ≠ zc c := by decide +kernel
theorem pblk_not_own (j : Fin 36) (c : Dev nD) : pblk c j / 16 ≠ zc c := by
  have h := zblk_not_own ⟨j / 3, by omega⟩ (peer j c)
  rwa [zc_peer] at h
theorem zblk_inj : ∀ (c : Dev nD) (k k' : Fin 12), zblk c k = zblk c k' → k = k' := by decide +kernel
theorem pblk_inj : ∀ (c : Dev nD) (k k' : Fin 36), pblk c k = pblk c k' → k = k' := by decide +kernel
theorem zblk_ne_pblk : ∀ (c : Dev nD) (k : Fin 12) (j : Fin 36), zblk c k ≠ pblk c j := by decide +kernel
/-- The device's own chunks, those received from other planes and those received within the plane are all of them. -/
theorem chunk_cover : ∀ (c : Dev nD) (b : Fin 64),
    b.val / 16 = zc c ∨ (∃ k : Fin 12, zblk c k = b) ∨ ∃ j : Fin 36, pblk c j = b := by decide +kernel

/-! ## The printed chains -/

theorem off1_eq : ∀ (c : Dev nD) (d : Fin 3) (h : Fin 4), k0_off1 c (BitVec.ofNat 32 (32 * h.val)) (BitVec.ofNat 32 (1 + d.val))
    = ![128 * qc c + 32 * h.val, 512 * ((zc c + d.val + 1) % 4)] := by decide +kernel
theorem off2_eq : ∀ (c : Dev nD) (h : Fin 4), k0_off2 c (BitVec.ofNat 32 (32 * h.val))
    = ![32 * ((16 * zc c + 4 * qc c + h.val) % 64), 0] := by decide +kernel
theorem off5_eq : ∀ (c : Dev nD) (d : Fin 3) (h : Fin 4), k0_off5 c (BitVec.ofNat 32 (1 + d.val)) (BitVec.ofNat 32 (32 * h.val))
    = ![32 * (zblk c (4 * d.val + h.val) % 64), 0] := by decide +kernel

theorem off3_eq (c : Dev nD) : k0_off3 c = ![0, 512 * zc c] := k0_off3_eq c
theorem off4_eq (c : Dev nD) : k0_off4 c = ![512 * zc c, 0] := k0_off4_eq c

/-- The devices the six entry signals name. -/
theorem sdev_eq : ∀ (s : Fin 6) (c : Dev nD),
    (![k0_dev1, k0_dev2, k0_dev3, k0_dev4, k0_dev5, k0_dev6] : Fin 6 → Dev nD → ℕ) s c = (sdst s c).val := by decide +kernel
/-- The devices the twelve copies between planes name. -/
theorem zdev_eq : ∀ (k : Fin 12) (c : Dev nD),
    (![k0_dev7, k0_dev8, k0_dev9, k0_dev10, k0_dev11, k0_dev12, k0_dev13, k0_dev14, k0_dev15, k0_dev16, k0_dev17, k0_dev18]
      : Fin 12 → Dev nD → ℕ) k c = (zdst k c).val := by decide +kernel
/-- The devices the thirty-six copies within the plane name. -/
theorem pdev_eq : ∀ (j : Fin 36) (c : Dev nD),
    (![k0_dev19, k0_dev20, k0_dev21, k0_dev22, k0_dev23, k0_dev24, k0_dev25, k0_dev26, k0_dev27, k0_dev28, k0_dev29, k0_dev30,
       k0_dev31, k0_dev32, k0_dev33, k0_dev34, k0_dev35, k0_dev36, k0_dev37, k0_dev38, k0_dev39, k0_dev40, k0_dev41, k0_dev42,
       k0_dev43, k0_dev44, k0_dev45, k0_dev46, k0_dev47, k0_dev48, k0_dev49, k0_dev50, k0_dev51, k0_dev52, k0_dev53, k0_dev54]
      : Fin 36 → Dev nD → ℕ) j c = (peer j c).val := by decide +kernel

/-! ## The buffers' parts -/

/-- The staged input, the result and the send buffer, each as the whole memref the kernel is given. -/
abbrev xM : Memref sig .tc .vmem S512x2048 .bf16 := Memref.whole cc0_stg0_0
abbrev oM : Memref sig .tc .vmem S2048x512 .bf16 := Memref.whole cc0_stg1_0
abbrev bM : Memref sig .tc .vmem S12x32x512 .bf16 := Memref.whole cc0_scratch0

theorem ch_inb (b : ℕ) : ∀ a, (![32 * (b % 64), 0] : Fin 2 → ℕ) a + S32x512.size a ≤ S2048x512.size a := fun a =>
  match a with
  | ⟨0, _⟩ => by show 32 * (b % 64) + 32 ≤ 2048; omega
  | ⟨1, _⟩ => by show 0 + 512 ≤ 512; omega

theorem sl_inb (k : ℕ) : ∀ a, (![k % 12, 0, 0] : Fin 3 → ℕ) a + S1x32x512.size a ≤ S12x32x512.size a := fun a =>
  match a with
  | ⟨0, _⟩ => by show k % 12 + 1 ≤ 12; omega
  | ⟨1, _⟩ => by show 0 + 32 ≤ 32; omega
  | ⟨2, _⟩ => by show 0 + 512 ≤ 512; omega

/-- Chunk `b` of the result: rows `32 b` to `32 b + 31`. -/
abbrev chM (b : ℕ) : Memref sig .tc .vmem S32x512 .bf16 :=
  oM.slice (Rect.unit (s := S2048x512) ![32 * (b % 64), 0] S32x512.size (ch_inb b)) (fun _ => rfl)
/-- Slot `k` of the send buffer, as a 32×512 block. -/
abbrev slM (k : ℕ) : Memref sig .tc .vmem S32x512 .bf16 :=
  (bM.slice (Rect.unit (s := S12x32x512) ![k % 12, 0, 0] S1x32x512.size (sl_inb k)) (fun _ => rfl)).squeeze S32x512 squeezes_S1x32x512_S32x512

/-- A slice of the result at a chunk's offsets is that chunk. -/
theorem ch_of_off {o : Fin 2 → ℕ} {inb : ∀ a, o a + S32x512.size a ≤ S2048x512.size a} {b : ℕ} (h : o = ![32 * (b % 64), 0]) :
    oM.slice (Rect.unit (s := S2048x512) o S32x512.size inb) (fun _ => rfl) = chM b := by subst h; rfl

/-- The elements of a chunk. -/
abbrev chS (b : ℕ) : Finset S2048x512.Idx := (chM b).view.set
/-- The elements of a slot. -/
abbrev slS (k : ℕ) : Finset S12x32x512.Idx := (slM k).view.set

theorem mem_chS (b : ℕ) (i : S2048x512.Idx) : i ∈ chS b ↔ (i 0).val / 32 = b % 64 := by
  show i ∈ ((View.whole cc0_stg1_0).slice (Rect.unit (s := S2048x512) ![32 * (b % 64), 0] S32x512.size (ch_inb b))).set ↔ _
  rw [View.set_slice_whole, Rect.mem_set_unit]
  have h1 : (i 1).val < 512 := (i 1).isLt
  constructor
  · intro h
    have h0 := h 0
    change 32 * (b % 64) ≤ (i 0).val ∧ (i 0).val < 32 * (b % 64) + 32 at h0
    omega
  · intro h a
    match a with
    | ⟨0, _⟩ => show 32 * (b % 64) ≤ (i 0).val ∧ (i 0).val < 32 * (b % 64) + 32; omega
    | ⟨1, _⟩ => show 0 ≤ (i 1).val ∧ (i 1).val < 0 + 512; omega

theorem mem_slot_rect {k : ℕ} {inb : ∀ a, (![k, 0, 0] : Fin 3 → ℕ) a + S1x32x512.size a ≤ S12x32x512.size a} (i : S12x32x512.Idx) :
    i ∈ (Rect.unit (s := S12x32x512) ![k, 0, 0] S1x32x512.size inb).set ↔ (i 0).val = k := by
  rw [Rect.mem_set_unit]
  have h1 : (i 1).val < 32 := (i 1).isLt
  have h2 : (i 2).val < 512 := (i 2).isLt
  constructor
  · intro h
    have h0 := h 0
    change k ≤ (i 0).val ∧ (i 0).val < k + 1 at h0
    omega
  · intro h a
    match a with
    | ⟨0, _⟩ => show k ≤ (i 0).val ∧ (i 0).val < k + 1; omega
    | ⟨1, _⟩ => show 0 ≤ (i 1).val ∧ (i 1).val < 0 + 32; omega
    | ⟨2, _⟩ => show 0 ≤ (i 2).val ∧ (i 2).val < 0 + 512; omega

theorem mem_slS (k : ℕ) (i : S12x32x512.Idx) : i ∈ slS k ↔ (i 0).val = k % 12 := by
  show i ∈ (((View.whole cc0_scratch0).slice (Rect.unit (s := S12x32x512) ![k % 12, 0, 0] S1x32x512.size (sl_inb k))).reshape S32x512
    squeezes_S1x32x512_S32x512.numel_eq).set ↔ _
  rw [View.set_reshape, View.set_slice_whole, mem_slot_rect]

/-- The device's own rows of the result. -/
def ownS (c : Dev nD) : Finset S2048x512.Idx := Finset.univ.filter fun i => (i 0).val / 512 = zc c
theorem mem_ownS (c : Dev nD) (i : S2048x512.Idx) : i ∈ ownS c ↔ (i 0).val / 512 = zc c := by simp [ownS]

theorem slots_univ : (Finset.univ : Finset S12x32x512.Idx) = (Finset.Ico 0 12).biUnion slS := by
  ext i
  have h : (i 0).val < 12 := (i 0).isLt
  simp only [Finset.mem_univ, Finset.mem_biUnion, Finset.mem_Ico, mem_slS, true_iff]
  exact ⟨(i 0).val, ⟨Nat.zero_le _, h⟩, (Nat.mod_eq_of_lt h).symm⟩
theorem slots_disjoint : ∀ k ∈ Finset.Ico 0 12, ∀ k' ∈ Finset.Ico 0 12, k ≠ k' → Disjoint (slS k) (slS k') := by
  intro k hk k' hk' hne
  rw [Finset.mem_Ico] at hk hk'
  refine Finset.disjoint_left.2 fun i h h' => ?_
  rw [mem_slS] at h h'
  omega

/-- The rows received from other planes, and those received within the plane. -/
def zS (c : Dev nD) : Finset S2048x512.Idx := (Finset.Ico 0 12).biUnion fun k => chS (zblk c k)
def pS (c : Dev nD) : Finset S2048x512.Idx := (Finset.Ico 0 36).biUnion fun j => chS (pblk c j)

theorem zS_disjoint (c : Dev nD) : ∀ k ∈ Finset.Ico 0 12, ∀ k' ∈ Finset.Ico 0 12, k ≠ k' → Disjoint (chS (zblk c k)) (chS (zblk c k')) := by
  intro k hk k' hk' hne
  rw [Finset.mem_Ico] at hk hk'
  refine Finset.disjoint_left.2 fun i h h' => hne ?_
  rw [mem_chS, Nat.mod_eq_of_lt (zblk_lt _ _)] at h h'
  exact congrArg Fin.val (zblk_inj c ⟨k, hk.2⟩ ⟨k', hk'.2⟩ (h.symm.trans h'))
theorem pS_disjoint (c : Dev nD) : ∀ k ∈ Finset.Ico 0 36, ∀ k' ∈ Finset.Ico 0 36, k ≠ k' → Disjoint (chS (pblk c k)) (chS (pblk c k')) := by
  intro k hk k' hk' hne
  rw [Finset.mem_Ico] at hk hk'
  refine Finset.disjoint_left.2 fun i h h' => hne ?_
  rw [mem_chS, Nat.mod_eq_of_lt (pblk_lt _ _)] at h h'
  exact congrArg Fin.val (pblk_inj c ⟨k, hk.2⟩ ⟨k', hk'.2⟩ (h.symm.trans h'))

theorem mem_zS (c : Dev nD) (i : S2048x512.Idx) : i ∈ zS c ↔ ∃ k : Fin 12, zblk c k = (i 0).val / 32 := by
  simp only [zS, Finset.mem_biUnion, Finset.mem_Ico, mem_chS, Nat.mod_eq_of_lt (zblk_lt _ _)]
  exact ⟨fun ⟨k, hk, h⟩ => ⟨⟨k, hk.2⟩, h.symm⟩, fun ⟨k, h⟩ => ⟨k, ⟨Nat.zero_le _, k.isLt⟩, h.symm⟩⟩
theorem mem_pS (c : Dev nD) (i : S2048x512.Idx) : i ∈ pS c ↔ ∃ j : Fin 36, pblk c j = (i 0).val / 32 := by
  simp only [pS, Finset.mem_biUnion, Finset.mem_Ico, mem_chS, Nat.mod_eq_of_lt (pblk_lt _ _)]
  exact ⟨fun ⟨k, hk, h⟩ => ⟨⟨k, hk.2⟩, h.symm⟩, fun ⟨k, h⟩ => ⟨k, ⟨Nat.zero_le _, k.isLt⟩, h.symm⟩⟩

theorem rows_univ (c : Dev nD) : (Finset.univ : Finset S2048x512.Idx) = ownS c ∪ (zS c ∪ pS c) := by
  ext i
  have h : (i 0).val < 2048 := (i 0).isLt
  simp only [Finset.mem_univ, Finset.mem_union, mem_ownS, mem_zS, mem_pS, true_iff]
  rcases chunk_cover c ⟨(i 0).val / 32, by omega⟩ with h | h | h
  · exact .inl (by simp only at h; omega)
  · exact .inr (.inl h)
  · exact .inr (.inr h)
theorem rows_disjoint (c : Dev nD) : Disjoint (ownS c) (zS c ∪ pS c) := by
  refine Finset.disjoint_left.2 fun i h h' => ?_
  rw [mem_ownS] at h
  rw [Finset.mem_union, mem_zS, mem_pS] at h'
  rcases h' with ⟨k, hk⟩ | ⟨j, hj⟩
  · exact zblk_not_own k c (by rw [hk]; omega)
  · exact pblk_not_own j c (by rw [hj]; omega)
theorem zS_pS_disjoint (c : Dev nD) : Disjoint (zS c) (pS c) := by
  refine Finset.disjoint_left.2 fun i h h' => ?_
  rw [mem_zS] at h; rw [mem_pS] at h'
  obtain ⟨k, hk⟩ := h
  obtain ⟨j, hj⟩ := h'
  exact zblk_ne_pblk c k j (hk.trans hj.symm)

/-! ## What the buffers hold -/

/-- The input of every device. -/
abbrev XIn (F : FTy → Type) : Type := Dev nD → S512x2048.Idx → Elt F .bf16

/-- The input's index at row `r`, column `j`. -/
def ix (r j : ℕ) : S512x2048.Idx := fun a => match a with
  | ⟨0, _⟩ => ⟨r % 512, Nat.mod_lt _ (by decide)⟩
  | ⟨1, _⟩ => ⟨j % 2048, Nat.mod_lt _ (by decide)⟩

/-- The device whose input a row of the result comes from. -/
def srcDev (c : Dev nD) (r : ℕ) : Dev nD := if r / 512 = zc c then c else devOf (r % 512 / 128) (r / 512)

/-- What device `c`'s result ends up holding: the columns of plane `zc c` of all the planes' rows. -/
def outF (X : XIn F) (c : Dev nD) : S2048x512.Idx → Elt F .bf16 := fun i =>
  X (srcDev c (i 0).val) (ix (i 0).val (512 * zc c + (i 1).val))

/-- What device `c`'s send buffer ends up holding: slot `k` has block `k` of its own quarter of rows. -/
def xbF (X : XIn F) (c : Dev nD) : S12x32x512.Idx → Elt F .bf16 := fun i =>
  X c (ix (128 * qc c + 32 * ((i 0).val % 4) + (i 1).val) (512 * ((zc c + (i 0).val / 4 + 1) % 4) + (i 2).val))

/-- Storing block `k` into slot `k` extends the staged slots by one. -/
theorem stage_step (X : XIn F) (c : Dev nD) (k : ℕ) (hk : k < 12) {f : S12x32x512.Idx → Elt F .bf16}
    (hf : ∀ i : S12x32x512.Idx, (i 0).val < k → f i = xbF X c i)
    {inb : ∀ a, (![k, 0, 0] : Fin 3 → ℕ) a + S1x32x512.size a ≤ S12x32x512.size a}
    {o : Fin 2 → ℕ} {inb' : ∀ a, o a + S32x512.size a ≤ S512x2048.size a}
    (ho : o = ![128 * qc c + 32 * (k % 4), 512 * ((zc c + k / 4 + 1) % 4)])
    {p : S1x32x512.Idx → Elt F .bf16}
    (hp : ∀ i : S1x32x512.Idx, p i = xM.view.readAt (Elt F) (Rect.unit (s := S512x2048) o S32x512.size inb').toLoadRect (X c) (fun a => i a.succ))
    (i : S12x32x512.Idx) (hi : (i 0).val < k + 1) :
    (bM.access (Rect.unit (s := S12x32x512) ![k, 0, 0] S1x32x512.size inb)).write (Elt F) f p Finset.univ i = xbF X c i := by
  by_cases h : (i 0).val = k
  · have hm : i ∈ (bM.access (Rect.unit (s := S12x32x512) ![k, 0, 0] S1x32x512.size inb)).set := by
      rw [View.set_slice_whole, mem_slot_rect]; exact h
    obtain ⟨x, -, rfl⟩ := Finset.mem_map.1 hm
    rw [View.write_emb_of_mem _ _ (Finset.mem_univ x)]
    refine (hp x).trans ?_
    subst ho
    have h1 : (x 1).val < 32 := (x 1).isLt
    have h2 : (x 2).val < 512 := (x 2).isLt
    have hq := qc_lt c
    refine congrArg (X c) (Shape.idx_ext₂ ?_ ?_)
    · show 128 * qc c + 32 * (k % 4) + 1 * (x 1).val
        = (128 * qc c + 32 * (((bM.access (Rect.unit (s := S12x32x512) ![k, 0, 0] S1x32x512.size inb)).emb x 0).val % 4) + (0 + 1 * (x 1).val)) % 512
      rw [h]; omega
    · show 512 * ((zc c + k / 4 + 1) % 4) + 1 * (x 2).val
        = (512 * ((zc c + ((bM.access (Rect.unit (s := S12x32x512) ![k, 0, 0] S1x32x512.size inb)).emb x 0).val / 4 + 1) % 4) + (0 + 1 * (x 2).val)) % 2048
      rw [h]; omega
  · rw [View.write_of_not_mem _ _ _ (by
      show i ∉ (bM.access (Rect.unit (s := S12x32x512) ![k, 0, 0] S1x32x512.size inb)).set
      rw [View.set_slice_whole, mem_slot_rect]; exact h)]
    exact hf i (by omega)

/-- An element of a chunk, written through the chunk, holds what was written at its place. -/
theorem write_ch (b : ℕ) (f : S2048x512.Idx → Elt F .bf16) (w : S32x512.Idx → Elt F .bf16) {i : S2048x512.Idx} (hi : i ∈ chS b) :
    ∃ x : S32x512.Idx, (i 0).val = 32 * (b % 64) + (x 0).val ∧ (i 1).val = (x 1).val ∧ i = (chM b).view.emb x
      ∧ (chM b).view.write (Elt F) f w Finset.univ i = w x := by
  obtain ⟨x, -, rfl⟩ := Finset.mem_map.1 hi
  refine ⟨x, ?_, ?_, rfl, View.write_emb_of_mem _ _ (Finset.mem_univ x)⟩
  · show 32 * (b % 64) + 1 * (x 0).val = _; omega
  · show 0 + 1 * (x 1).val = _; omega

/-- A slot of the send buffer read as a 32×512 block. -/
theorem read_slot (k : ℕ) (f : S12x32x512.Idx → Elt F .bf16) (x : S32x512.Idx) :
    ∃ y : S12x32x512.Idx, (y 0).val = k % 12 ∧ (y 1).val = (x 0).val ∧ (y 2).val = (x 1).val ∧ (slM k).view.read (Elt F) f x = f y := by
  refine ⟨(Rect.unit (s := S12x32x512) ![k % 12, 0, 0] S1x32x512.size (sl_inb k)).emb (Fin.cons ⟨0, Nat.one_pos⟩ x), ?_, ?_, ?_, ?_⟩
  · show k % 12 + 1 * 0 = _; omega
  · show 0 + 1 * (x 0).val = _; omega
  · show 0 + 1 * (x 1).val = _; omega
  · exact (congrFun (Memref.read_squeeze_slice bM (Rect.unit (s := S12x32x512) ![k % 12, 0, 0] S1x32x512.size (sl_inb k)) (fun _ => rfl)
      squeezes_S1x32x512_S32x512 shapeCasts_S1x32x512_S32x512 f) x).trans (shapeCast_dropUnit_apply ![32, 512] _ _ x)

theorem devOf_qc_zc : ∀ c : Dev nD, devOf (qc c) (zc c) = c := by decide +kernel

/-- Block `k` lands on its destination as the rows the result is to have there. -/
theorem land_z (X : XIn F) (c : Dev nD) (k : ℕ) (hk : k < 12) (f : S2048x512.Idx → Elt F .bf16) :
    ∀ i ∈ chS (zblk (zdst k c) k),
      (chM (zblk (zdst k c) k)).view.write (Elt F) f ((slM k).view.read (Elt F) (xbF X c)) Finset.univ i = outF X (zdst k c) i := by
  intro i hi
  obtain ⟨x, h0, h1, -, hw⟩ := write_ch _ f ((slM k).view.read (Elt F) (xbF X c)) hi
  obtain ⟨y, y0, y1, y2, hr⟩ := read_slot k (xbF X c) x
  rw [hw, hr]
  have hb := zblk_zdst ⟨k, hk⟩ c
  have hz := zc_zdst_fin ⟨k, hk⟩ c
  simp only at hb hz
  have hq := qc_lt c
  have hzc := zc_lt c
  have hx0 : (x 0).val < 32 := (x 0).isLt
  have hx1 : (x 1).val < 512 := (x 1).isLt
  rw [hb] at h0
  unfold xbF outF srcDev
  rw [if_neg (by rw [hz, h0]; omega), show (i 0).val % 512 / 128 = qc c by omega, show (i 0).val / 512 = zc c by omega, devOf_qc_zc]
  refine congrArg (X c) (Shape.idx_ext₂ ?_ ?_)
  · show (128 * qc c + 32 * ((y 0).val % 4) + (y 1).val) % 512 = (i 0).val % 512
    rw [y0, y1, h0]; omega
  · show (512 * ((zc c + (y 0).val / 4 + 1) % 4) + (y 2).val) % 2048 = (512 * zc (zdst k c) + (i 1).val) % 2048
    rw [y0, y2, h1, hz, Nat.mod_eq_of_lt hk]

/-- Off the device's own rows, the result of a device of the same plane is the same. -/
theorem outF_plane (X : XIn F) {c c' : Dev nD} (hz : zc c' = zc c) {i : S2048x512.Idx} (hi : (i 0).val / 512 ≠ zc c) :
    outF X c' i = outF X c i := by
  unfold outF srcDev
  rw [hz, if_neg hi, if_neg hi]

/-- A received chunk, copied to a device of the same plane, is what that device's result is to have there. -/
theorem land_p (X : XIn F) (c : Dev nD) (j k : ℕ) (hk : k < 12) (f : S2048x512.Idx → Elt F .bf16) :
    ∀ i ∈ chS (zblk c k),
      (chM (zblk c k)).view.write (Elt F) f ((chM (zblk c k)).view.read (Elt F) (outF X c)) Finset.univ i = outF X (peer j c) i := by
  intro i hi
  have hm := (mem_chS _ i).1 hi
  rw [Nat.mod_eq_of_lt (zblk_lt _ _)] at hm
  have hno := zblk_not_own ⟨k, hk⟩ c
  simp only at hno
  obtain ⟨x, -, -, he, hw⟩ := write_ch (zblk c k) f ((chM (zblk c k)).view.read (Elt F) (outF X c)) hi
  rw [hw, outF_plane X (zc_peer j c) (by omega), he]
  rfl

theorem own_rect (c : Dev nD) {o : Fin 2 → ℕ} {inb : ∀ a, o a + S512x512.size a ≤ S2048x512.size a} (ho : o = ![512 * zc c, 0]) :
    (oM.access (Rect.unit (s := S2048x512) o S512x512.size inb)).set = ownS c := by
  subst ho
  ext i
  have h1 : (i 1).val < 512 := (i 1).isLt
  rw [mem_ownS]
  show i ∈ ((View.whole cc0_stg1_0).slice (Rect.unit (s := S2048x512) ![512 * zc c, 0] S512x512.size inb)).set ↔ _
  rw [View.set_slice_whole, Rect.mem_set_unit]
  constructor
  · intro h
    have h0 := h 0
    change 512 * zc c ≤ (i 0).val ∧ (i 0).val < 512 * zc c + 512 at h0
    omega
  · intro h a
    match a with
    | ⟨0, _⟩ => show 512 * zc c ≤ (i 0).val ∧ (i 0).val < 512 * zc c + 512; omega
    | ⟨1, _⟩ => show 0 ≤ (i 1).val ∧ (i 1).val < 0 + 512; omega

/-- The columns of the device's own plane, stored at its own rows, are what its result is to have there. -/
theorem own_store (X : XIn F) (c : Dev nD) {o o' : Fin 2 → ℕ} {inb : ∀ a, o a + S512x512.size a ≤ S2048x512.size a}
    {inb' : ∀ a, o' a + S512x512.size a ≤ S512x2048.size a} (ho : o = ![512 * zc c, 0]) (ho' : o' = ![0, 512 * zc c])
    (f : S2048x512.Idx → Elt F .bf16) {p : S512x512.Idx → Elt F .bf16}
    (hp : p = xM.view.readAt (Elt F) (Rect.unit (s := S512x2048) o' S512x512.size inb').toLoadRect (X c)) :
    ∀ i ∈ ownS c, (oM.access (Rect.unit (s := S2048x512) o S512x512.size inb)).write (Elt F) f p Finset.univ i = outF X c i := by
  intro i hi
  have hi' := hi
  rw [← own_rect c (inb := inb) ho] at hi'
  obtain ⟨x, -, rfl⟩ := Finset.mem_map.1 hi'
  rw [View.write_emb_of_mem _ _ (Finset.mem_univ x)]
  subst ho ho' hp
  have hr := (mem_ownS c _).1 hi
  unfold outF srcDev
  rw [if_pos hr]
  have h0 : (x 0).val < 512 := (x 0).isLt
  have h1 : (x 1).val < 512 := (x 1).isLt
  have hz := zc_lt c
  refine congrArg (X c) (Shape.idx_ext₂ ?_ ?_)
  · show 0 + 1 * (x 0).val = (512 * zc c + 1 * (x 0).val) % 512; omega
  · show 512 * zc c + 1 * (x 1).val = (512 * zc c + (0 + 1 * (x 1).val)) % 2048; omega

end Cert.AllToAll

end
-- ==== Proof.Schedule.lean ====
/-
# The semaphores and what crosses them

Every device has ninety-seven semaphores of its own: the entry barrier, and for each of the twelve copies between planes
and the thirty-six copies within a plane one that says the source is free again and one that says a block has arrived.
Each is raised once. This module numbers them, says what raising each one hands to its owner, and what every device owes
when the kernel begins.
-/
module

public import proofs.«01_k».proof.Proof.Geometry

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The numbering of the semaphores -/

/-- The entry barrier's semaphore. -/
abbrev barS : Sem sig := (SemArray.scalar (sig.barrier 0 rfl) : Sems sig S_).sem

set_option backward.proofsInPublic true in
/-- Semaphore `n` of a device: 0 the barrier; `1 + k` and `13 + k` the source and the arrival of block `k` between planes;
    `25 + j` and `61 + j` those of copy `j` within the plane. -/
def csem (n : ℕ) : SemLoc sig := match n with
  | 0 => .reg barS
  | n + 1 => .dma ⟨(n + 2) % 98, Nat.mod_lt _ (by decide)⟩

/-- The number of a semaphore; 97 for one that is none of these. -/
def num : SemLoc sig → ℕ
  | .reg s => if s = barS then 0 else 97
  | .dma q => if q.val < 2 then 97 else q.val - 1

theorem num_csem_fin : ∀ n : Fin 97, num (csem n) = n := by decide +kernel
theorem num_csem {n : ℕ} (h : n < 97) : num (csem n) = n := num_csem_fin ⟨n, h⟩
theorem csem_num_dma : ∀ q : Fin 98, 2 ≤ q.val → csem (q.val - 1) = .dma q := by decide +kernel

/-- Semaphore `n` of device `c`. -/
abbrev kcell (c : Dev nD) (n : ℕ) : GSem nD τ sig := ((c : Thread nD τ), csem n)

/-- What one copy adds to each of its semaphores. -/
abbrev N : ℕ := (chM 0).view.dmaCredit
theorem N_pos : 0 < N := View.dmaCredit_pos _ (by decide)

/-! ## Parts of the buffers held -/

/-- Elements `S` of device `c`'s result buffer, share `q`, holding `f`. -/
def oPts (c : Dev nD) (S : Finset S2048x512.Idx) (q : PosShare TreeShare) (f : S2048x512.Idx → Elt F .bf16) : sProp 𝕄 :=
  ((c : Thread nD τ).loc cc0_stg1_0) ↦[S]{q} f
/-- Elements `S` of device `c`'s send buffer holding `f`. -/
def bPts (c : Dev nD) (S : Finset S12x32x512.Idx) (f : S12x32x512.Idx → Elt F .bf16) : sProp 𝕄 :=
  ((c : Thread nD τ).loc cc0_scratch0) ↦[S]{fullShare} f

instance oPts_storable (c : Dev nD) (S q f) : BI.Storable (upEmb : UEmb _ 𝕄) (oPts (F := F) c S q f) := by unfold oPts; infer_instance
instance bPts_storable (c : Dev nD) (S f) : BI.Storable (upEmb : UEmb _ 𝕄) (bPts (F := F) c S f) := by unfold bPts; infer_instance

/-- The share of a received chunk that copy `j` within the plane reads: the three copies of one chunk take three shares. -/
def third (j : ℕ) : PosShare TreeShare := match j % 3 with
  | 0 => fullShare.left | 1 => fullShare.right.left | _ => fullShare.right.right

/-! ## What a raise hands over -/

/-- The rows block `k` of device `c` is written to, on the device it goes to, holding anything. -/
def zRoom (c : Dev nD) (k : ℕ) : sProp 𝕄 := iprop(∃ f, oPts (zdst k c) (chS (zblk (zdst k c) k)) fullShare f)
/-- The rows copy `j` of device `c` is written to, on the device it goes to, holding anything. -/
def pRoom (c : Dev nD) (j : ℕ) : sProp 𝕄 := iprop(∃ f, oPts (peer j c) (chS (zblk c (j / 3))) fullShare f)

/-- What entry signal `s` hands the device it goes to: the rows of the signalling device's result that it will write. -/
def barPay (c : Dev nD) (s : ℕ) : sProp 𝕄 :=
  if s < 3 then bigSep (Finset.Ico (4 * (2 - s)) (4 * (2 - s) + 4)) (zRoom c)
  else bigSep (Finset.Ico 0 12) fun t => pRoom c (3 * t + (s - 3))
/-- Slot `k` of the send buffer, full. -/
def slot (X : XIn F) (c : Dev nD) (k : ℕ) : sProp 𝕄 := bPts c (slS k) (xbF X c)
/-- The rows of block `k`, arrived. -/
def zGot (X : XIn F) (c : Dev nD) (k : ℕ) : sProp 𝕄 := oPts c (chS (zblk c k)) fullShare (outF X c)
/-- The share copy `j` reads of the chunk it forwards. -/
def zPart (X : XIn F) (c : Dev nD) (j : ℕ) : sProp 𝕄 := oPts c (chS (zblk c (j / 3))) (third j) (outF X c)
/-- The rows of copy `j`, arrived. -/
def pGot (X : XIn F) (c : Dev nD) (j : ℕ) : sProp 𝕄 := oPts c (chS (pblk c j)) fullShare (outF X c)

/-- What semaphore `n` of device `c` hands its owner; `s` tells the barrier's six signals apart. -/
def pay (X : XIn F) (c : Dev nD) (n s : ℕ) : sProp 𝕄 :=
  if n = 0 then barPay c s
  else if n < 13 then slot X c (n - 1)
  else if n < 25 then zGot X c (n - 13)
  else if n < 61 then zPart X c (n - 25)
  else pGot X c (n - 61)

/-- The schedule: one round, the barrier raised by six signals of one unit, every other semaphore by one copy. -/
def sched (X : XIn F) : Rounds.Schedule (GSem nD τ sig) ℕ 𝕄 where
  duties g r := if r = 0 ∧ g.1.2 = .tc then (if num g.2 = 0 then Finset.Ico 0 6 else if num g.2 < 97 then {0} else ∅) else ∅
  unitless _ := False
  amount g _ _ := if num g.2 = 0 then 1 else N
  payload g _ s := pay X g.1.1 (num g.2) s
  amount_pos g _ _ _ := by
    by_cases h : num g.2 = 0
    · rw [if_pos h]; exact Nat.one_pos
    · rw [if_neg h]; exact N_pos

instance sched_payload_storable (X : XIn F) (g : GSem nD τ sig) (r s : ℕ) :
    BI.Storable (upEmb : UEmb _ 𝕄) ((sched X).payload g r s) := by
  show BI.Storable upEmb (pay X g.1.1 (num g.2) s)
  unfold pay barPay slot zGot zPart pGot zRoom pRoom
  (repeat' split) <;> infer_instance

section Facts
variable (X : XIn F) (c : Dev nD)

theorem duties_bar : (sched X).duties (kcell c 0) 0 = Finset.Ico 0 6 := by
  dsimp only [sched]
  rw [if_pos ⟨rfl, rfl⟩, if_pos (num_csem (by decide))]
theorem duties_one {n : ℕ} (h0 : n ≠ 0) (h : n < 97) : (sched X).duties (kcell c n) 0 = {0} := by
  dsimp only [sched]
  rw [if_pos ⟨rfl, rfl⟩, num_csem h, if_neg h0, if_pos h]
theorem duties_later (g : GSem nD τ sig) : ∀ r, 1 ≤ r → (sched X).duties g r = ∅ := fun r hr => by
  dsimp only [sched]; rw [if_neg fun h => by omega]

theorem amount_bar (s : ℕ) : (sched X).amount (kcell c 0) 0 s = 1 := by
  dsimp only [sched]; exact if_pos (num_csem (by decide))
theorem amount_one {n : ℕ} (h0 : n ≠ 0) (h : n < 97) (s : ℕ) : (sched X).amount (kcell c n) 0 s = N := by
  dsimp only [sched]; exact if_neg (by rw [num_csem h]; exact h0)

theorem expect_bar : (sched X).expect (kcell c 0) 0 = 6 := by
  unfold Schedule.expect Schedule.amountOf
  rw [duties_bar, Finset.sum_congr rfl fun s _ => amount_bar X c s, Finset.sum_const, smul_eq_mul]; rfl
theorem expect_one {n : ℕ} (h0 : n ≠ 0) (h : n < 97) : (sched X).expect (kcell c n) 0 = N := by
  unfold Schedule.expect Schedule.amountOf
  rw [duties_one X c h0 h, Finset.sum_singleton, amount_one X c h0 h]

theorem payload_eq {n : ℕ} (h : n < 97) (s : ℕ) : (sched X).payload (kcell c n) 0 s = pay X c n s := by
  show pay X c (num (csem n)) s = _; rw [num_csem h]

theorem rest_bar : bigSep ((sched X).duties (kcell c 0) 0 \ ∅) (fun s => (sched X).payload (kcell c 0) 0 s) = bigSep (Finset.Ico 0 6) (barPay c) := by
  rw [Finset.sdiff_empty, duties_bar]
  exact congrArg _ (funext fun s => payload_eq X c (by decide) s)
theorem rest_one {n : ℕ} (h0 : n ≠ 0) (h : n < 97) :
    bigSep ((sched X).duties (kcell c n) 0 \ ∅) (fun s => (sched X).payload (kcell c n) 0 s) = pay X c n 0 := by
  rw [Finset.sdiff_empty, duties_one X c h0 h, bigSep_singleton, payload_eq X c h]

theorem pay_zs {k : ℕ} (h : k < 12) (s : ℕ) : pay X c (1 + k) s = slot X c k := by
  unfold pay; rw [if_neg (by omega), if_pos (by omega), Nat.add_sub_cancel_left]
theorem pay_zr {k : ℕ} (h : k < 12) (s : ℕ) : pay X c (13 + k) s = zGot X c k := by
  unfold pay; rw [if_neg (by omega), if_neg (by omega), if_pos (by omega), Nat.add_sub_cancel_left]
theorem pay_ps {j : ℕ} (h : j < 36) (s : ℕ) : pay X c (25 + j) s = zPart X c j := by
  unfold pay; rw [if_neg (by omega), if_neg (by omega), if_neg (by omega), if_pos (by omega), Nat.add_sub_cancel_left]
theorem pay_pr (j : ℕ) (s : ℕ) : pay X c (61 + j) s = pGot X c j := by
  unfold pay; rw [if_neg (by omega), if_neg (by omega), if_neg (by omega), if_neg (by omega), Nat.add_sub_cancel_left]

end Facts

/-! ## What each device owes, and the levels -/

/-- What device `c` owes from signal `s`, block `a` and copy `j` on. -/
def owed (c : Dev nD) (s a j : ℕ) : CellTallies nD τ sig Unit :=
  (∑ t ∈ Finset.Ico s 6, tallyAt (kcell (sdst t c) 0) () 1)
    + (∑ k ∈ Finset.Ico a 12, tallyAt (kcell (zdst k c) (13 + k)) () N)
    + (∑ t ∈ Finset.Ico j 36, tallyAt (kcell (peer t c) (61 + t)) () N)

theorem Ico_peel {a b : ℕ} (h : a < b) : Finset.Ico a b = insert a (Finset.Ico (a + 1) b) := by
  ext x; rw [Finset.mem_insert, Finset.mem_Ico, Finset.mem_Ico]; omega
theorem sum_Ico_peel {A : Type} [AddCommMonoid A] {a b : ℕ} (h : a < b) (f : ℕ → A) :
    ∑ t ∈ Finset.Ico a b, f t = (∑ t ∈ Finset.Ico (a + 1) b, f t) + f a := by
  rw [Ico_peel h, Finset.sum_insert (by rw [Finset.mem_Ico]; omega), add_comm]

theorem owed_bar (c : Dev nD) {s : ℕ} (h : s < 6) (a j : ℕ) : owed c s a j = owed c (s + 1) a j + tallyAt (kcell (sdst s c) 0) () 1 := by
  unfold owed; rw [sum_Ico_peel h]; ac_rfl
theorem owed_z (c : Dev nD) (s : ℕ) {a : ℕ} (h : a < 12) (j : ℕ) : owed c s a j = owed c s (a + 1) j + tallyAt (kcell (zdst a c) (13 + a)) () N := by
  unfold owed; rw [sum_Ico_peel h]; ac_rfl
theorem owed_p (c : Dev nD) (s a : ℕ) {j : ℕ} (h : j < 36) : owed c s a j = owed c s a (j + 1) + tallyAt (kcell (peer j c) (61 + j)) () N := by
  unfold owed; rw [sum_Ico_peel h]; ac_rfl
theorem owed_none (c : Dev nD) : owed c 6 12 36 = 0 := by
  unfold owed; rw [Finset.Ico_self, Finset.Ico_self, Finset.Ico_self]; simp only [Finset.sum_empty, add_zero]

theorem sum_tally_pos {S : Finset ℕ} {φ : ℕ → GSem nD τ sig} {n : ℕ} {g : GSem nD τ sig} {u : Unit}
    (h : 0 < (∑ k ∈ S, tallyAt (φ k) () n : CellTallies nD τ sig Unit) g u) : ∃ k ∈ S, g = φ k := by
  revert h
  refine Finset.sum_induction (fun k => (tallyAt (φ k) () n : CellTallies nD τ sig Unit)) (fun O => 0 < O g u → ∃ k ∈ S, g = φ k) ?_ ?_ ?_
  · intro A B hA hB h
    rw [Pi.add_apply, Finsupp.add_apply] at h
    by_cases h' : 0 < A g u
    · exact hA h'
    · exact hB (by omega)
  · intro h; exact absurd h (Nat.lt_irrefl 0)
  · intro k hk h
    rw [tallyAt_apply] at h
    by_cases h' : g = φ k ∧ u = ()
    · exact ⟨k, hk, h'.1⟩
    · rw [if_neg h'] at h; exact absurd h (Nat.lt_irrefl 0)

/-- The level of semaphore `n`: arrivals within the plane above arrivals from other planes above the barrier. -/
def level (n : ℕ) : ℕ := if n = 0 then 1 else if n < 13 then 0 else if n < 25 then 2 else if n < 61 then 0 else if n < 97 then 3 else 0

def L (g : GSem nD τ sig) : Finset Unit := if g.1.2 = .tc then {()} else ∅
def lv (g : GSem nD τ sig) (_ : Unit) : ℕ := level (num g.2)
theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {s a j : ℕ} {g : GSem nD τ sig} {u : Unit} (h : 0 < owed c s a j g u) :
    ∃ d n, g = kcell d n ∧ n < 97 ∧ ((s < 6 ∧ n = 0) ∨ (a < 12 ∧ 13 ≤ n ∧ n < 25) ∨ (j < 36 ∧ 61 ≤ n)) := by
  unfold owed at h
  rw [Pi.add_apply, Finsupp.add_apply, Pi.add_apply, Finsupp.add_apply] at h
  by_cases h1 : 0 < (∑ t ∈ Finset.Ico s 6, tallyAt (kcell (sdst t c) 0) () 1 : CellTallies nD τ sig Unit) g u
  · obtain ⟨t, ht, rfl⟩ := sum_tally_pos h1
    rw [Finset.mem_Ico] at ht
    exact ⟨_, 0, rfl, by decide, .inl ⟨by omega, rfl⟩⟩
  by_cases h2 : 0 < (∑ k ∈ Finset.Ico a 12, tallyAt (kcell (zdst k c) (13 + k)) () N : CellTallies nD τ sig Unit) g u
  · obtain ⟨t, ht, rfl⟩ := sum_tally_pos (φ := fun k => kcell (zdst k c) (13 + k)) h2
    rw [Finset.mem_Ico] at ht
    exact ⟨_, 13 + t, rfl, by omega, .inr (.inl ⟨by omega, by omega, by omega⟩)⟩
  · obtain ⟨t, ht, rfl⟩ := sum_tally_pos (φ := fun k => kcell (peer k c) (61 + k)) (S := Finset.Ico j 36) (n := N) (g := g) (u := u) (by omega)
    rw [Finset.mem_Ico] at ht
    exact ⟨_, 61 + t, rfl, by omega, .inr (.inr ⟨by omega, by omega⟩)⟩

/-- A device may wait at a semaphore below all it still owes. -/
theorem mayWait_below (c : Dev nD) (sm : SemLoc sig) (s a j b : ℕ) (hb : level (num sm) ≤ b) (hs : s < 6 → b < 1) (ha : a < 12 → b < 2) (hj : j < 36 → b < 3) :
    (levAts L lv : sProp 𝕄) ⊢ MayWait (c : Thread nD τ) sm () (owed c s a j) :=
  MayOwe.of_cut (L := L) (lev := lv) b (fun p hp => by rw [Finset.mem_singleton.mp hp, L_tc]; exact Finset.mem_singleton_self _)
    (fun g u hg => by obtain ⟨d, n, rfl, -, -⟩ := owed_pos hg; rw [L_tc]; exact Finset.mem_singleton_self _)
    (fun p hp => by rw [Finset.mem_singleton.mp hp]; exact hb)
    (fun g u hg => by
      obtain ⟨d, n, rfl, hn, h⟩ := owed_pos hg
      show b < level (num (csem n))
      rw [num_csem hn]
      unfold level
      rcases h with ⟨h, rfl⟩ | ⟨h, h1, h2⟩ | ⟨h, h1⟩
      · exact hs h
      · rw [if_neg (by omega), if_neg (by omega), if_pos h2]; exact ha h
      · rw [if_neg (by omega), if_neg (by omega), if_neg (by omega), if_neg (by omega), if_pos hn]; exact hj h)

end Cert.AllToAll

end
-- ==== Proof.Steps.lean ====
/-
# One step of the body at a time

What a device holds between two operations is a function of how far each of its sequences has come: how many blocks it
has sent between planes, how many of those sends it has waited for, how many blocks it has waited for, and the same for
the copies within the plane. This module states that holding (`St`) and proves, for each kind of operation, that it
advances the one counter it should.
-/
module

public import proofs.«01_k».proof.Proof.Schedule
public import Idealize.SL.BI.BigOpNat

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program run by device `c`'s core. -/
abbrev Wp (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- The entailment of the assertions' model, as the one proofs are written with. -/
theorem toBI {P Q : sProp 𝕄} (h : Idealize.SL.BI.Entails P Q) : P ⊢ Q := h
/-- Two assertions that entail each other are equal. -/
theorem eq_of_both {P Q : sProp 𝕄} (h : P ⊢ Q) (h' : Q ⊢ P) : P = Q := Idealize.SL.BI.Entails.antisymm h h'
theorem toEq {P Q : sProp 𝕄} (h : P ⊣⊢ Q) : P = Q := eq_of_both h.1 h.2
/-- Entailment under a separating conjunction over a set. -/
theorem each {I : Type} {S : Finset I} {A B : I → sProp 𝕄} (h : ∀ i ∈ S, A i ⊢ B i) : bigSep S A ⊢ bigSep S B := toBI (bigSep_mono h)

/-! ## Runs of numbers -/

theorem bigSep_Ico_join {a b d : ℕ} (hab : a ≤ b) (hbd : b ≤ d) (A : ℕ → sProp 𝕄) :
    bigSep (Finset.Ico a d) A = iprop(bigSep (Finset.Ico a b) A ∗ bigSep (Finset.Ico b d) A) := by
  refine Eq.trans (congrArg (bigSep · A) ?_)
    (bigSep_union (by rw [Finset.disjoint_left]; intro x; rw [Finset.mem_Ico, Finset.mem_Ico]; omega))
  ext x; rw [Finset.mem_union, Finset.mem_Ico, Finset.mem_Ico, Finset.mem_Ico]; omega

theorem bigSep_Ico_three (n : ℕ) (A : ℕ → sProp 𝕄) :
    bigSep (Finset.Ico 0 (3 * n)) A = bigSep (Finset.Ico 0 n) (fun t => iprop(A (3 * t) ∗ A (3 * t + 1) ∗ A (3 * t + 2))) := by
  induction n with
  | zero => rfl
  | succ n ih =>
    rw [bigSep_Ico_succ_top (Nat.zero_le n), ← ih, show 3 * (n + 1) = 3 * n + 1 + 1 + 1 by omega,
      bigSep_Ico_succ_top (Nat.zero_le _), bigSep_Ico_succ_top (Nat.zero_le _), bigSep_Ico_succ_top (Nat.zero_le _)]
    refine eq_of_both ?_ ?_
    · iintro ⟨H2, H1, H0, H⟩
      isplitl [H0 H1 H2]
      · isplitl [H0]; · iexact H0
        isplitl [H1]; · iexact H1
        iexact H2
      iexact H
    · iintro ⟨⟨H0, H1, H2⟩, H⟩
      isplitl [H2]; · iexact H2
      isplitl [H1]; · iexact H1
      isplitl [H0]; · iexact H0
      iexact H

/-! ## What is held -/

section State
variable (X : XIn F) (K : Dev nD × Fin 97 → ℕ) (c : Dev nD)

/-- Every semaphore's invariant, and that its round has begun. -/
def records : sProp 𝕄 :=
  iprop(bigSep Finset.univ (fun ck : Dev nD × Fin 97 => cellInv ER (sched X) (K ck) (kcell ck.1 ck.2))
    ∗ bigSep Finset.univ (fun ck : Dev nD × Fin 97 => reached ER (kcell ck.1 ck.2) 0))

/-- What every step may use and none uses up: those and the levels. -/
def ctx : sProp 𝕄 := iprop(records X K ∗ levAts L lv)

instance ctx_persistent : BI.Persistent (ctx X K) := by unfold ctx records; infer_instance

theorem ctx_cell {n : ℕ} (h : n < 97) : ctx X K ⊢ iprop(cellInv ER (sched X) (K (c, ⟨n, h⟩)) (kcell c n) ∗ reached ER (kcell c n) 0) := by
  unfold ctx records
  iintro ⟨⟨#HI, #HR⟩, -⟩
  ihave HI' := (toBI (bigSep_elim (i := ((c, ⟨n, h⟩) : Dev nD × Fin 97)) (Finset.mem_univ _))) $$ HI
  ihave HR' := (toBI (bigSep_elim (i := ((c, ⟨n, h⟩) : Dev nD × Fin 97)) (Finset.mem_univ _))) $$ HR
  isplitl [HI']
  · iexact HI'
  · iexact HR'
theorem ctx_lev : ctx X K ⊢ (levAts L lv : sProp 𝕄) := by
  unfold ctx; iintro ⟨-, H⟩; iexact H

/-- What the device owes, having waited at some semaphores. -/
def owing (s a j : ℕ) : sProp 𝕄 := iprop(∃ W, owes (c : Thread nD τ) (owed c s a j) W)

/-- A semaphore whose raise is under way, not waited for. -/
def pend (n : ℕ) : sProp 𝕄 := iprop(cred (tallyAt (kcell c n) () N) ∗ atPos ER (kcell c n) 0 ∅ 0)
/-- A semaphore waited for. -/
def spent (n : ℕ) : sProp 𝕄 := atPos ER (kcell c n) 1 ∅ 0

/-- What sending block `k` between planes takes. -/
def toZ (k : ℕ) : sProp 𝕄 :=
  iprop(dutyTok ER (kcell c (1 + k)) 0 0 ∗ dutyTok ER (kcell (zdst k c) (13 + k)) 0 0 ∗ atPos ER (kcell c (1 + k)) 0 ∅ 0
    ∗ slot X c k ∗ zRoom c k)
/-- What copy `j` within the plane takes, beside its share of the chunk it forwards. -/
def toP (j : ℕ) : sProp 𝕄 :=
  iprop(dutyTok ER (kcell c (25 + j)) 0 0 ∗ dutyTok ER (kcell (peer j c) (61 + j)) 0 0 ∗ atPos ER (kcell c (25 + j)) 0 ∅ 0 ∗ pRoom c j)

/-- What the device holds once past the barrier, with `a` blocks sent between planes and `u` of those sends waited for,
    `w` blocks waited for, `j` copies begun within the plane and `v` of them waited for, and `p` arrivals within the
    plane waited for; `R` is what no step uses. -/
def St (R : sProp 𝕄) (a u w j v p : ℕ) : sProp 𝕄 :=
  iprop(ctx X K ∗ R ∗ owing c 6 a j
    ∗ bigSep (Finset.Ico a 12) (toZ X c) ∗ bigSep (Finset.Ico u a) (fun k => pend c (1 + k))
    ∗ bigSep (Finset.Ico 0 u) (fun k => iprop(spent c (1 + k) ∗ slot X c k))
    ∗ bigSep (Finset.Ico w 12) (fun k => pend c (13 + k)) ∗ bigSep (Finset.Ico 0 w) (fun k => spent c (13 + k))
    ∗ bigSep (Finset.Ico j (3 * w)) (zPart X c)
    ∗ bigSep (Finset.Ico j 36) (toP c) ∗ bigSep (Finset.Ico v j) (fun t => pend c (25 + t))
    ∗ bigSep (Finset.Ico 0 v) (fun t => iprop(spent c (25 + t) ∗ zPart X c t))
    ∗ bigSep (Finset.Ico p 36) (fun t => pend c (61 + t))
    ∗ bigSep (Finset.Ico 0 p) (fun t => iprop(spent c (61 + t) ∗ pGot X c t)))

end State

/-! ## Waiting -/

section Steps
variable {X : XIn F} {K : Dev nD × Fin 97 → ℕ} {c : Dev nD} {α : Type}

/-- Waiting for a copy at semaphore `n` yields what the semaphore hands over. -/
theorem wait_one {Q : α → sProp 𝕄} {n s a j : ℕ} (h0 : n ≠ 0) (h : n < 97) (b : ℕ) (hb : level n ≤ b) (hs : s < 6 → b < 1) (ha : a < 12 → b < 2) (hj : j < 36 → b < 3)
    {sm : DmaSem sig} (hsm : csem n = .dma sm)
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N)
    {k : PUnit.{1} → Prog (TpuEff nD τ sig (Elt F) Λ₀ .tc) α} :
    iprop(ctx X K ∗ owing c s a j ∗ pend c n ∗ ((owing c s a j ∗ spent c n ∗ pay X c n 0) -∗ Wp c (k ⟨⟩) Q))
      ⊢ Wp c (.op (.waitDma2 sm src dst hsrc hdst) k) Q := by
  unfold pend owing spent
  iintro ⟨#Hctx, ⟨%W, HO⟩, ⟨Hcr, Hat⟩, Hk⟩
  ihave Hi := (ctx_cell X K c h) $$ Hctx
  icases Hi with ⟨#HI, #HR⟩
  have hcell : kcell c n = ((c : Thread nD τ), SemLoc.dma sm) := by rw [← hsm]
  have hrest := rest_one X c h0 h
  have hexp := expect_one X c h0 h
  have hlev : ctx X K ⊢ MayWait (c : Thread nD τ) (.dma sm) () (owed c s a j) := by
    have hb' : level (num (.dma sm)) ≤ b := by rw [← hsm, num_csem h]; exact hb
    iintro H
    iapply (mayWait_below c (.dma sm) s a j b hb' hs ha hj)
    iapply (ctx_lev X K)
    iexact H
  rw [hcell] at hrest hexp
  rw [hcell]
  have hk : 0 + dst.view.dmaCredit = (sched X).expect ((c : Thread nD τ), SemLoc.dma sm) 0 := by rw [Nat.zero_add, hexp, hN]
  iapply (Rounds.wp_wait_rest_token 𝒱₀ ER (sched X) (c : Thread nD τ) none (κ := K (c, ⟨n, h⟩))
      (wpE_waitDma2_eq 𝒱₀ (c : Thread nD τ) none Set.univ) (Set.mem_univ _) () (O := owed c s a j) (W := W) (R := 0) (m := 0) (T := ∅)
      hk) $$ [Hcr HO Hat]
  · isplitr; · iexact HI
    isplitl [Hcr]; · rw [hN]; iexact Hcr
    isplitl [HO]; · iexact HO
    isplitr; · iapply hlev; iexact Hctx
    iexact Hat
  iintro ⟨HO, Hat, -, Hpay⟩
  ihave Hp := (Entails.of_eq hrest) $$ Hpay
  iapply Hk
  isplitl [HO]; · iexists (insert (SemLoc.dma sm, ()) W); iexact HO
  isplitl [Hat]; · iexact Hat
  iexact Hp

/-! ## Copying -/

/-- Starting a copy from device `c` to device `d`, which pays one summand of what `c` owes and leaves the raise of the
    source's semaphore under way. -/
theorem send_one {Q : α → sProp 𝕄} {n n' : ℕ} {d : Dev nD} {s a j s' a' j' : ℕ} (h0 : n ≠ 0) (h : n < 97) (h0' : n' ≠ 0) (h' : n' < 97)
    (hO : owed c s a j = owed c s' a' j' + tallyAt (kcell d n') () N)
    {sS sem : DmaSem sig} (hS : csem n = .dma sS) (hR : csem n' = .dma sem)
    {src : Memref sig .tc .vmem S32x512 .bf16} {dst : Memref sig (Dev.tc d : Thread nD τ).2.kind .vmem S32x512 .bf16}
    {hsc : dst.view.ref.isScScratch = false} {hsrc : src.view.WordExact} {hdst : dst.view.WordExact}
    {hsem : DmaTarget.Typed .vmem (.dma sem) (.remote (Dev.tc d : Thread nD τ) dst (.dma sS) hsc)}
    (hN : dst.view.dmaCredit = N) {q : PosShare TreeShare} {fs : Buf (Elt F) (src.view.loc (c : Thread nD τ))}
    {fd : Buf (Elt F) (dst.view.loc (d : Thread nD τ))}
    (hpay₁ : (src.view.loc (c : Thread nD τ) ↦[src.view.set]{q} fs : sProp 𝕄) ⊢ pay X c n 0)
    (hpay₂ : (dst.view.loc (d : Thread nD τ) ↦[dst.view.set]{fullShare} (dst.view.write (Elt F) fd (src.view.read (Elt F) fs) Finset.univ) : sProp 𝕄)
      ⊢ pay X d n' 0)
    {k : PUnit.{1} → Prog (TpuEff nD τ sig (Elt F) Λ₀ .tc) α} :
    iprop(ctx X K ∗ owing c s a j ∗ (src.view.loc (c : Thread nD τ) ↦[src.view.set]{q} fs) ∗ (dst.view.loc (d : Thread nD τ) ↦[dst.view.set]{fullShare} fd)
        ∗ dutyTok ER (kcell c n) 0 0 ∗ dutyTok ER (kcell d n') 0 0 ∗ atPos ER (kcell c n) 0 ∅ 0
        ∗ ((owing c s' a' j' ∗ pend c n) -∗ Wp c (k ⟨⟩) Q))
      ⊢ Wp c (.op (.enqueueDma src (.remote (Dev.tc d : Thread nD τ) dst (.dma sS) hsc) (.dma sem) hsrc hdst hsem) k) Q := by
  unfold pend owing
  iintro ⟨#Hctx, ⟨%W, HO⟩, Hsrc, Hdst, Ht, Ht', Hat, Hk⟩
  ihave Hi := (ctx_cell X K c h) $$ Hctx
  icases Hi with ⟨#HI, #HR⟩
  ihave Hi := (ctx_cell X K d h') $$ Hctx
  icases Hi with ⟨#HI', #HR'⟩
  have hd₁ : 0 ∈ (sched X).duties (kcell c n) 0 := by rw [duties_one X c h0 h]; exact Finset.mem_singleton_self _
  have hd₂ : 0 ∈ (sched X).duties (kcell d n') 0 := by rw [duties_one X d h0' h']; exact Finset.mem_singleton_self _
  have hk₁ := amount_one X c h0 h 0
  have hk₂ := amount_one X d h0' h' 0
  rw [← payload_eq X c h] at hpay₁
  rw [← payload_eq X d h'] at hpay₂
  unfold kcell at hO hd₁ hd₂ hk₁ hk₂ hpay₁ hpay₂ ⊢
  rw [hS] at hd₁ hk₁ hpay₁
  rw [hR] at hO hd₂ hk₂ hpay₂
  rw [hS, hR]
  iapply (Rounds.wp_send_pointsTo 𝒱₀ ER (sched X) (c : Thread nD τ) none (κ₁ := K (c, ⟨n, h⟩)) (κ₂ := K (d, ⟨n', h'⟩))
    (r₁ := 0) (r₂ := 0) (d₁ := 0) (d₂ := 0) (fd := fd) hd₁ hd₂ () () N hN hk₁ hk₂ (owed c s' a' j') hO (W := W) hpay₁ hpay₂) $$ [Hsrc Hdst HO Ht Ht']
  · isplitr; · iexact HI
    isplitr; · iexact HI'
    isplitl [Hsrc]; · iexact Hsrc
    isplitl [Hdst]; · iexact Hdst
    isplitl [HO]; · iexact HO
    isplitl [Ht]; · iexact Ht
    isplitr; · iexact HR
    isplitl [Ht']; · iexact Ht'
    iexact HR'
  iintro ⟨Hcr, HO⟩
  iapply Hk
  isplitl [HO]; · iexists W; iexact HO
  isplitl [Hcr]; · iexact Hcr
  iexact Hat

theorem credit_ch (b : ℕ) : (chM b).view.dmaCredit = N := rfl
theorem credit_sl (k : ℕ) : (slM k).view.dmaCredit = N := rfl

/-- Sending block `a` between planes. -/
theorem send_z {Q : α → sProp 𝕄} {R : sProp 𝕄} {a u w j v p : ℕ} (ha : a < 12) (hu : u ≤ a) {n : Dev nD} (hn : n = zdst a c)
    {sS sem : DmaSem sig} (hS : csem (1 + a) = .dma sS) (hR : csem (13 + a) = .dma sem)
    {src dst : Memref sig .tc .vmem S32x512 .bf16} (hs : src = slM a) (hd : dst = chM (zblk (zdst a c) a))
    {hsc : dst.view.ref.isScScratch = false} {hsrc : src.view.WordExact} {hdst : dst.view.WordExact}
    {hsem : DmaTarget.Typed .vmem (.dma sem) (.remote (Dev.tc n : Thread nD τ) dst (.dma sS) hsc)}
    {k : PUnit.{1} → Prog (TpuEff nD τ sig (Elt F) Λ₀ .tc) α} (hk : St X K c R (a + 1) u w j v p ⊢ Wp c (k ⟨⟩) Q) :
    St X K c R a u w j v p ⊢ Wp c (.op (.enqueueDma src (.remote (Dev.tc n : Thread nD τ) dst (.dma sS) hsc) (.dma sem) hsrc hdst hsem) k) Q := by
  subst hn hs hd
  have hblk : bigSep (Finset.Ico u (a + 1)) (fun k => pend c (1 + k)) = iprop(pend c (1 + a) ∗ bigSep (Finset.Ico u a) (fun k => pend c (1 + k) : ℕ → sProp 𝕄)) :=
    bigSep_Ico_succ_top hu _
  unfold St at hk ⊢
  rw [bigSep_Ico_succ_bot ha]
  rw [hblk] at hk
  unfold toZ slot zRoom bPts oPts
  iintro ⟨#Hctx, HR, HO, ⟨⟨Ht, Ht', Hat, Hsl, ⟨%fd, Hfd⟩⟩, HZ⟩, Hzp, Hrest⟩
  iapply (send_one (X := X) (K := K) (n := 1 + a) (n' := 13 + a) (s := 6) (a := a) (j := j) (s' := 6) (a' := a + 1) (j' := j)
    (src := slM a) (dst := chM (zblk (zdst a c) a))
    (by omega) (by omega) (by omega) (by omega) (owed_z c 6 ha j) hS hR (credit_ch _) (q := fullShare) (fs := xbF X c) (fd := fd)
    (Entails.of_eq (pay_zs X c ha 0).symm)
    (Entails.of_eq ((pointsTo_congr (land_z X c a ha fd)).trans (pay_zr X (zdst a c) ha 0).symm)))
  isplitr; · iexact Hctx
  isplitl [HO]; · iexact HO
  isplitl [Hsl]; · iexact Hsl
  isplitl [Hfd]; · iexact Hfd
  isplitl [Ht]; · iexact Ht
  isplitl [Ht']; · iexact Ht'
  isplitl [Hat]; · iexact Hat
  iintro ⟨HO, Hp⟩
  iapply hk
  isplitr; · iexact Hctx
  isplitl [HR]; · iexact HR
  isplitl [HO]; · iexact HO
  isplitl [HZ]; · iexact HZ
  isplitl [Hp Hzp]
  · isplitl [Hp]; · iexact Hp
    iexact Hzp
  iexact Hrest

/-- Copying within the plane: copy `j`, of a chunk that has arrived. -/
theorem send_p {Q : α → sProp 𝕄} {R : sProp 𝕄} {u w j v p : ℕ} (hj : j < 3 * w) (hw : w ≤ 12) (hv : v ≤ j) {n : Dev nD} (hn : n = peer j c)
    {sS sem : DmaSem sig} (hS : csem (25 + j) = .dma sS) (hR : csem (61 + j) = .dma sem)
    {src dst : Memref sig .tc .vmem S32x512 .bf16} (hs : src = chM (zblk c (j / 3))) (hd : dst = chM (zblk c (j / 3)))
    {hsc : dst.view.ref.isScScratch = false} {hsrc : src.view.WordExact} {hdst : dst.view.WordExact}
    {hsem : DmaTarget.Typed .vmem (.dma sem) (.remote (Dev.tc n : Thread nD τ) dst (.dma sS) hsc)}
    {k : PUnit.{1} → Prog (TpuEff nD τ sig (Elt F) Λ₀ .tc) α} (hk : St X K c R 12 u w (j + 1) v p ⊢ Wp c (k ⟨⟩) Q) :
    St X K c R 12 u w j v p ⊢ Wp c (.op (.enqueueDma src (.remote (Dev.tc n : Thread nD τ) dst (.dma sS) hsc) (.dma sem) hsrc hdst hsem) k) Q := by
  subst hn hs hd
  have hj36 : j < 36 := by omega
  have hblk : bigSep (Finset.Ico v (j + 1)) (fun t => pend c (25 + t)) = iprop(pend c (25 + j) ∗ bigSep (Finset.Ico v j) (fun t => pend c (25 + t) : ℕ → sProp 𝕄)) :=
    bigSep_Ico_succ_top hv _
  have hgot : pay X (peer j c) (61 + j) 0 = oPts (peer j c) (chS (zblk c (j / 3))) fullShare (outF X (peer j c)) := by
    rw [pay_pr]; unfold pGot pblk; rw [peer_peer]
  unfold St at hk ⊢
  rw [bigSep_Ico_succ_bot hj, bigSep_Ico_succ_bot hj36]
  rw [hblk] at hk
  unfold toP pRoom oPts
  iintro ⟨#Hctx, HR, HO, HZ, Hzp, Hzd, Hrp, Hrd, ⟨Hpt, Hpart⟩, ⟨⟨Ht, Ht', Hat, ⟨%fd, Hfd⟩⟩, HP⟩, Hpp, Hrest⟩
  iapply (send_one (X := X) (K := K) (n := 25 + j) (n' := 61 + j) (s := 6) (a := 12) (j := j) (s' := 6) (a' := 12) (j' := j + 1)
    (src := chM (zblk c (j / 3))) (dst := chM (zblk c (j / 3)))
    (by omega) (by omega) (by omega) (by omega) (owed_p c 6 12 hj36) hS hR (credit_ch _) (q := third j) (fs := outF X c) (fd := fd)
    (Entails.of_eq (pay_ps X c hj36 0).symm)
    (Entails.of_eq ((pointsTo_congr (land_p X c j (j / 3) (by omega) fd)).trans hgot.symm)))
  isplitr; · iexact Hctx
  isplitl [HO]; · iexact HO
  isplitl [Hpt]; · unfold zPart oPts; iexact Hpt
  isplitl [Hfd]; · iexact Hfd
  isplitl [Ht]; · iexact Ht
  isplitl [Ht']; · iexact Ht'
  isplitl [Hat]; · iexact Hat
  iintro ⟨HO, Hp⟩
  iapply hk
  isplitr; · iexact Hctx
  isplitl [HR]; · iexact HR
  isplitl [HO]; · iexact HO
  isplitl [HZ]; · iexact HZ
  isplitl [Hzp]; · iexact Hzp
  isplitl [Hzd]; · iexact Hzd
  isplitl [Hrp]; · iexact Hrp
  isplitl [Hrd]; · iexact Hrd
  isplitl [Hpart]; · iexact Hpart
  isplitl [HP]; · iexact HP
  isplitl [Hp Hpp]
  · isplitl [Hp]; · iexact Hp
    iexact Hpp
  iexact Hrest

/-! ## Waiting, by kind of semaphore -/

/-- A received chunk is held as the three shares its three copies read. -/
theorem zGot_thirds (k : ℕ) : zGot X c k = iprop(zPart X c (3 * k) ∗ zPart X c (3 * k + 1) ∗ zPart X c (3 * k + 2)) := by
  have h0 : third (3 * k) = fullShare.left := by unfold third; rw [show 3 * k % 3 = 0 by omega]; rfl
  have h1 : third (3 * k + 1) = fullShare.right.left := by unfold third; rw [show (3 * k + 1) % 3 = 1 by omega]; rfl
  have h2 : third (3 * k + 2) = fullShare.right.right := by unfold third; rw [show (3 * k + 2) % 3 = 2 by omega]; rfl
  unfold zGot zPart oPts
  rw [h0, h1, h2, show 3 * k / 3 = k by omega, show (3 * k + 1) / 3 = k by omega, show (3 * k + 2) / 3 = k by omega]
  rw [← toEq (pointsTo_share (PosShare.mem_left_op_right fullShare.right)), ← toEq (pointsTo_share (PosShare.mem_left_op_right fullShare))]

/-- Waiting for block `w` from another plane. -/
theorem wait_zr {Q : α → sProp 𝕄} {R : sProp 𝕄} {u w j v p : ℕ} (hw : w < 12) (hj : j ≤ 3 * w) {sm : DmaSem sig} (hsm : csem (13 + w) = .dma sm)
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N)
    {k : PUnit.{1} → Prog (TpuEff nD τ sig (Elt F) Λ₀ .tc) α} (hk : St X K c R 12 u (w + 1) j v p ⊢ Wp c (k ⟨⟩) Q) :
    St X K c R 12 u w j v p ⊢ Wp c (.op (.waitDma2 sm src dst hsrc hdst) k) Q := by
  have hd : bigSep (Finset.Ico 0 (w + 1)) (fun k => spent c (13 + k)) = iprop(spent c (13 + w) ∗ bigSep (Finset.Ico 0 w) (fun k => spent c (13 + k) : ℕ → sProp 𝕄)) :=
    bigSep_Ico_succ_top (Nat.zero_le _) _
  have ht : bigSep (Finset.Ico j (3 * (w + 1))) (zPart X c) = iprop(zPart X c (3 * w + 2) ∗ zPart X c (3 * w + 1) ∗ zPart X c (3 * w) ∗ bigSep (Finset.Ico j (3 * w)) (zPart X c)) := by
    rw [show 3 * (w + 1) = 3 * w + 1 + 1 + 1 by omega, bigSep_Ico_succ_top (by omega), bigSep_Ico_succ_top (by omega), bigSep_Ico_succ_top hj]
  unfold St at hk ⊢
  rw [bigSep_Ico_succ_bot hw]
  rw [hd, ht] at hk
  iintro ⟨#Hctx, HR, HO, HZ, Hzp, Hzd, ⟨Hp, Hrp⟩, Hrd, Hpart, Hrest⟩
  iapply (wait_one (X := X) (K := K) (n := 13 + w) (s := 6) (a := 12) (j := j) (by omega) (by omega) 2
    (by unfold level; rw [if_neg (by omega), if_neg (by omega), if_pos (by omega)]) (fun h => absurd h (by omega)) (fun h => absurd h (by omega)) (fun _ => by omega) hsm hN)
  rw [pay_zr X c hw, zGot_thirds]
  isplitr; · iexact Hctx
  isplitl [HO]; · iexact HO
  isplitl [Hp]; · iexact Hp
  iintro ⟨HO, Hs, H0, H1, H2⟩
  iapply hk
  isplitr; · iexact Hctx
  isplitl [HR]; · iexact HR
  isplitl [HO]; · iexact HO
  isplitl [HZ]; · iexact HZ
  isplitl [Hzp]; · iexact Hzp
  isplitl [Hzd]; · iexact Hzd
  isplitl [Hrp]; · iexact Hrp
  isplitl [Hs Hrd]
  · isplitl [Hs]; · iexact Hs
    iexact Hrd
  isplitl [H0 H1 H2 Hpart]
  · isplitl [H2]; · iexact H2
    isplitl [H1]; · iexact H1
    isplitl [H0]; · iexact H0
    iexact Hpart
  iexact Hrest

/-- Waiting for arrival `p` within the plane. -/
theorem wait_pr {Q : α → sProp 𝕄} {R : sProp 𝕄} {u w v p : ℕ} (hp : p < 36) {sm : DmaSem sig} (hsm : csem (61 + p) = .dma sm)
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N)
    {k : PUnit.{1} → Prog (TpuEff nD τ sig (Elt F) Λ₀ .tc) α} (hk : St X K c R 12 u w 36 v (p + 1) ⊢ Wp c (k ⟨⟩) Q) :
    St X K c R 12 u w 36 v p ⊢ Wp c (.op (.waitDma2 sm src dst hsrc hdst) k) Q := by
  have hd : bigSep (Finset.Ico 0 (p + 1)) (fun t => iprop(spent c (61 + t) ∗ pGot X c t))
      = iprop((spent c (61 + p) ∗ pGot X c p) ∗ bigSep (Finset.Ico 0 p) (fun t => iprop(spent c (61 + t) ∗ pGot X c t))) :=
    bigSep_Ico_succ_top (Nat.zero_le _) _
  unfold St at hk ⊢
  rw [bigSep_Ico_succ_bot hp]
  rw [hd] at hk
  iintro ⟨#Hctx, HR, HO, HZ, Hzp, Hzd, Hrp, Hrd, Hpart, HP, Hpp, Hpd, ⟨Hp, Hap⟩, Had⟩
  iapply (wait_one (X := X) (K := K) (n := 61 + p) (s := 6) (a := 12) (j := 36) (by omega) (by omega) 3
    (by unfold level; rw [if_neg (by omega), if_neg (by omega), if_neg (by omega), if_neg (by omega), if_pos (by omega)])
    (fun h => absurd h (by omega)) (fun h => absurd h (by omega)) (fun h => absurd h (by omega)) hsm hN)
  rw [pay_pr]
  isplitr; · iexact Hctx
  isplitl [HO]; · iexact HO
  isplitl [Hp]; · iexact Hp
  iintro ⟨HO, Hs⟩
  iapply hk
  isplitr; · iexact Hctx
  isplitl [HR]; · iexact HR
  isplitl [HO]; · iexact HO
  isplitl [HZ]; · iexact HZ
  isplitl [Hzp]; · iexact Hzp
  isplitl [Hzd]; · iexact Hzd
  isplitl [Hrp]; · iexact Hrp
  isplitl [Hrd]; · iexact Hrd
  isplitl [Hpart]; · iexact Hpart
  isplitl [HP]; · iexact HP
  isplitl [Hpp]; · iexact Hpp
  isplitl [Hpd]; · iexact Hpd
  isplitl [Hap]; · iexact Hap
  isplitl [Hs]; · iexact Hs
  iexact Had

/-- Waiting for the source of block `u` sent between planes to be free. -/
theorem wait_zs {Q : α → sProp 𝕄} {R : sProp 𝕄} {u w v p : ℕ} (hu : u < 12) {sm : DmaSem sig} (hsm : csem (1 + u) = .dma sm)
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N)
    {k : PUnit.{1} → Prog (TpuEff nD τ sig (Elt F) Λ₀ .tc) α} (hk : St X K c R 12 (u + 1) w 36 v p ⊢ Wp c (k ⟨⟩) Q) :
    St X K c R 12 u w 36 v p ⊢ Wp c (.op (.waitDma2 sm src dst hsrc hdst) k) Q := by
  have hd : bigSep (Finset.Ico 0 (u + 1)) (fun k => iprop(spent c (1 + k) ∗ slot X c k))
      = iprop((spent c (1 + u) ∗ slot X c u) ∗ bigSep (Finset.Ico 0 u) (fun k => iprop(spent c (1 + k) ∗ slot X c k))) :=
    bigSep_Ico_succ_top (Nat.zero_le _) _
  unfold St at hk ⊢
  rw [bigSep_Ico_succ_bot hu]
  rw [hd] at hk
  iintro ⟨#Hctx, HR, HO, HZ, ⟨Hp, Hzp⟩, Hzd, Hrest⟩
  iapply (wait_one (X := X) (K := K) (n := 1 + u) (s := 6) (a := 12) (j := 36) (by omega) (by omega) 0
    (by unfold level; rw [if_neg (by omega), if_pos (by omega)])
    (fun h => absurd h (by omega)) (fun h => absurd h (by omega)) (fun h => absurd h (by omega)) hsm hN)
  rw [pay_zs X c hu]
  isplitr; · iexact Hctx
  isplitl [HO]; · iexact HO
  isplitl [Hp]; · iexact Hp
  iintro ⟨HO, Hs⟩
  iapply hk
  isplitr; · iexact Hctx
  isplitl [HR]; · iexact HR
  isplitl [HO]; · iexact HO
  isplitl [HZ]; · iexact HZ
  isplitl [Hzp]; · iexact Hzp
  isplitl [Hs Hzd]
  · isplitl [Hs]; · iexact Hs
    iexact Hzd
  iexact Hrest

/-- Waiting for the source of copy `v` within the plane to be free. -/
theorem wait_ps {Q : α → sProp 𝕄} {R : sProp 𝕄} {u w v p : ℕ} (hv : v < 36) {sm : DmaSem sig} (hsm : csem (25 + v) = .dma sm)
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N)
    {k : PUnit.{1} → Prog (TpuEff nD τ sig (Elt F) Λ₀ .tc) α} (hk : St X K c R 12 u w 36 (v + 1) p ⊢ Wp c (k ⟨⟩) Q) :
    St X K c R 12 u w 36 v p ⊢ Wp c (.op (.waitDma2 sm src dst hsrc hdst) k) Q := by
  have hd : bigSep (Finset.Ico 0 (v + 1)) (fun t => iprop(spent c (25 + t) ∗ zPart X c t))
      = iprop((spent c (25 + v) ∗ zPart X c v) ∗ bigSep (Finset.Ico 0 v) (fun t => iprop(spent c (25 + t) ∗ zPart X c t))) :=
    bigSep_Ico_succ_top (Nat.zero_le _) _
  unfold St at hk ⊢
  rw [bigSep_Ico_succ_bot hv]
  rw [hd] at hk
  iintro ⟨#Hctx, HR, HO, HZ, Hzp, Hzd, Hrp, Hrd, Hpart, HP, ⟨Hp, Hpp⟩, Hpd, Hrest⟩
  iapply (wait_one (X := X) (K := K) (n := 25 + v) (s := 6) (a := 12) (j := 36) (by omega) (by omega) 0
    (by unfold level; rw [if_neg (by omega), if_neg (by omega), if_neg (by omega), if_pos (by omega)])
    (fun h => absurd h (by omega)) (fun h => absurd h (by omega)) (fun h => absurd h (by omega)) hsm hN)
  rw [pay_ps X c hv]
  isplitr; · iexact Hctx
  isplitl [HO]; · iexact HO
  isplitl [Hp]; · iexact Hp
  iintro ⟨HO, Hs⟩
  iapply hk
  isplitr; · iexact Hctx
  isplitl [HR]; · iexact HR
  isplitl [HO]; · iexact HO
  isplitl [HZ]; · iexact HZ
  isplitl [Hzp]; · iexact Hzp
  isplitl [Hzd]; · iexact Hzd
  isplitl [Hrp]; · iexact Hrp
  isplitl [Hrd]; · iexact Hrd
  isplitl [Hpart]; · iexact Hpart
  isplitl [HP]; · iexact HP
  isplitl [Hpp]; · iexact Hpp
  isplitl [Hs Hpd]
  · isplitl [Hs]; · iexact Hs
    iexact Hpd
  iexact Hrest

/-! ## The entry: staging and the barrier -/

/-- The staged input of device `c`. -/
def xPts (X : XIn F) (c : Dev nD) : sProp 𝕄 := ((c : Thread nD τ).loc cc0_stg0_0) ↦[Finset.univ]{fullShare} (X c)
/-- The device's own rows of its result, holding anything. -/
def ownAny (c : Dev nD) : sProp 𝕄 := iprop(∃ f : S2048x512.Idx → Elt F .bf16, oPts c (ownS c) fullShare f)

/-- While the send buffer is filled: the input, the send buffer whose first `k` slots are as they are to be, and `R`. -/
def SA (X : XIn F) (c : Dev nD) (R : sProp 𝕄) (k : ℕ) : sProp 𝕄 :=
  iprop(xPts X c ∗ R ∗ ∃ f : S12x32x512.Idx → Elt F .bf16, ⌜∀ i : S12x32x512.Idx, (i 0).val < k → f i = xbF X c i⌝ ∗ bPts c Finset.univ f)

/-- A load of the staged input. -/
theorem load_x {Q : α → sProp 𝕄} {R : sProp 𝕄} {r : LoadRect S512x2048} {hl : xM.view.LoadsAt r}
    {k : (r.shape.Idx → Elt F .bf16) → Prog (TpuEff nD τ sig (Elt F) Λ₀ .tc) α}
    (hk : iprop(xPts X c ∗ R) ⊢ Wp c (k (xM.view.readAt (Elt F) r (X c))) Q) :
    iprop(xPts X c ∗ R) ⊢ Wp c (.op (.load xM r hl) k) Q := by
  unfold xPts at hk ⊢
  iintro ⟨Hx, HR⟩
  iapply (wp_load 𝒱₀ (c : Thread nD τ) none Set.univ (m := xM) (Finset.subset_univ _)) $$ Hx
  iintro Hx
  iapply hk
  isplitl [Hx]; · iexact Hx
  iexact HR

/-- A load of the send buffer, whose value may be anything. -/
theorem load_b {Q : α → sProp 𝕄} {R : sProp 𝕄} {n : ℕ} {r : LoadRect S12x32x512} {hl : bM.view.LoadsAt r}
    {k : (r.shape.Idx → Elt F .bf16) → Prog (TpuEff nD τ sig (Elt F) Λ₀ .tc) α} (hk : ∀ v, SA X c R n ⊢ Wp c (k v) Q) :
    SA X c R n ⊢ Wp c (.op (.load bM r hl) k) Q := by
  unfold SA bPts at hk ⊢
  iintro ⟨Hx, HR, ⟨%f, %hf, Hb⟩⟩
  iapply (wp_load 𝒱₀ (c : Thread nD τ) none Set.univ (m := bM) (Finset.subset_univ _)) $$ Hb
  iintro Hb
  iapply (hk _)
  isplitl [Hx]; · iexact Hx
  isplitl [HR]; · iexact HR
  iexists f
  isplitr; · ipureintro; exact hf
  iexact Hb

/-- Filling slot `n`. -/
theorem store_b {Q : α → sProp 𝕄} {R : sProp 𝕄} {n : ℕ} (hn : n < 12)
    {inb : ∀ a, (![n, 0, 0] : Fin 3 → ℕ) a + S1x32x512.size a ≤ S12x32x512.size a}
    {o : Fin 2 → ℕ} {inb' : ∀ a, o a + S32x512.size a ≤ S512x2048.size a}
    (ho : o = ![128 * qc c + 32 * (n % 4), 512 * ((zc c + n / 4 + 1) % 4)])
    {p : S1x32x512.Idx → Elt F .bf16}
    (hp : ∀ i : S1x32x512.Idx, p i = xM.view.readAt (Elt F) (Rect.unit (s := S512x2048) o S32x512.size inb').toLoadRect (X c) (fun a => i a.succ))
    {hx : (bM.access (Rect.unit (s := S12x32x512) ![n, 0, 0] S1x32x512.size inb)).Stores Finset.univ}
    {hm : (Finset.univ : Finset (Rect.unit (s := S12x32x512) ![n, 0, 0] S1x32x512.size inb).shape.Idx) = Finset.univ
      ∨ ∀ a, (Rect.unit (s := S12x32x512) ![n, 0, 0] S1x32x512.size inb).stride a = 1}
    {k : PUnit.{1} → Prog (TpuEff nD τ sig (Elt F) Λ₀ .tc) α} (hk : SA X c R (n + 1) ⊢ Wp c (k ⟨⟩) Q) :
    SA X c R n ⊢ Wp c (.op (.store bM (Rect.unit (s := S12x32x512) ![n, 0, 0] S1x32x512.size inb) p Finset.univ hx hm) k) Q := by
  unfold SA bPts at hk ⊢
  iintro ⟨Hx, HR, ⟨%f, %hf, Hb⟩⟩
  iapply (wp_store 𝒱₀ (c : Thread nD τ) none Set.univ (m := bM) (r := Rect.unit (s := S12x32x512) ![n, 0, 0] S1x32x512.size inb) (w := p) (Mk := Finset.univ)
    (hx := hx) (hm := hm) (S := Finset.univ) (f := f) (Finset.subset_univ _)) $$ Hb
  iintro Hb
  iapply hk
  isplitl [Hx]; · iexact Hx
  isplitl [HR]; · iexact HR
  iexists _
  isplitr
  rotate_left
  · iexact Hb
  · ipureintro; exact fun i hi => stage_step X c n hn hf ho hp i hi

/-- A run of six: three runs of four of one family, and the three residues modulo 3 of another. -/
def pays (A B : ℕ → sProp 𝕄) (s : ℕ) : sProp 𝕄 :=
  if s < 3 then bigSep (Finset.Ico (4 * (2 - s)) (4 * (2 - s) + 4)) A else bigSep (Finset.Ico 0 12) fun t => B (3 * t + (s - 3))

theorem pays_all (A B : ℕ → sProp 𝕄) : bigSep (Finset.Ico 0 6) (pays A B) = iprop(bigSep (Finset.Ico 0 12) A ∗ bigSep (Finset.Ico 0 36) B) := by
  rw [bigSep_Ico_three 12 B, bigSep_sep', bigSep_sep', bigSep_Ico_join (b := 4) (by omega) (by omega) A, bigSep_Ico_join (a := 4) (b := 8) (by omega) (by omega) A,
    bigSep_Ico_succ_bot (by omega), bigSep_Ico_succ_bot (by omega), bigSep_Ico_succ_bot (by omega), bigSep_Ico_succ_bot (by omega), bigSep_Ico_succ_bot (by omega), bigSep_Ico_one]
  show iprop(bigSep (Finset.Ico 8 12) A ∗ bigSep (Finset.Ico 4 8) A ∗ bigSep (Finset.Ico 0 4) A ∗ bigSep (Finset.Ico 0 12) (fun t => B (3 * t))
    ∗ bigSep (Finset.Ico 0 12) (fun t => B (3 * t + 1)) ∗ bigSep (Finset.Ico 0 12) (fun t => B (3 * t + 2))) = _
  refine eq_of_both ?_ ?_
  · iintro ⟨H2, H1, H0, HB⟩
    isplitr [HB]
    · isplitl [H0]; · iexact H0
      isplitl [H1]; · iexact H1
      iexact H2
    iexact HB
  · iintro ⟨⟨H0, H1, H2⟩, HB⟩
    isplitl [H2]; · iexact H2
    isplitl [H1]; · iexact H1
    isplitl [H0]; · iexact H0
    iexact HB

/-- The tokens sending block `k` between planes takes. -/
def zTok (c : Dev nD) (k : ℕ) : sProp 𝕄 :=
  iprop(dutyTok ER (kcell c (1 + k)) 0 0 ∗ dutyTok ER (kcell (zdst k c) (13 + k)) 0 0 ∗ atPos ER (kcell c (1 + k)) 0 ∅ 0)
/-- The tokens copy `j` within the plane takes. -/
def pTok (c : Dev nD) (j : ℕ) : sProp 𝕄 :=
  iprop(dutyTok ER (kcell c (25 + j)) 0 0 ∗ dutyTok ER (kcell (peer j c) (61 + j)) 0 0 ∗ atPos ER (kcell c (25 + j)) 0 ∅ 0)
/-- What only the copies use. -/
def toks (c : Dev nD) : sProp 𝕄 :=
  iprop(bigSep (Finset.Ico 0 12) (zTok c) ∗ bigSep (Finset.Ico 0 36) (pTok c)
    ∗ bigSep (Finset.Ico 0 12) (fun k => pend c (13 + k)) ∗ bigSep (Finset.Ico 0 36) (fun t => pend c (61 + t)))
/-- What signal `t` takes. -/
def toSig (c : Dev nD) (t : ℕ) : sProp 𝕄 := iprop(dutyTok ER (kcell (sdst t c) 0) 0 t ∗ barPay (sdst t c) t)

/-- What the device holds when `s` of its entry signals are sent. -/
def SB (X : XIn F) (K : Dev nD × Fin 97 → ℕ) (c : Dev nD) (R : sProp 𝕄) (s : ℕ) : sProp 𝕄 :=
  iprop(ctx X K ∗ R ∗ owing c s 0 0 ∗ (cred (tallyAt (kcell c 0) () 6) ∗ atPos ER (kcell c 0) 0 ∅ 0) ∗ bigSep (Finset.Ico s 6) (toSig c))

/-- Entry signal `s`. -/
theorem signal {Q : α → sProp 𝕄} {R : sProp 𝕄} {s : ℕ} (hs : s < 6) {n : Dev nD} (hn : n = sdst s c) {v : ℕ} (hv : v = 1)
    {k : PUnit.{1} → Prog (TpuEff nD τ sig (Elt F) Λ₀ .tc) α} (hk : SB X K c R (s + 1) ⊢ Wp c (k ⟨⟩) Q) :
    SB X K c R s ⊢ Wp c (.op (.semSignal (Dev.tc n : Thread nD τ) barS v) k) Q := by
  subst hn hv
  unfold SB at hk ⊢
  rw [bigSep_Ico_succ_bot hs]
  unfold owing at hk ⊢
  unfold toSig at hk ⊢
  iintro ⟨#Hctx, HR, ⟨%W, HO⟩, Hbar, ⟨⟨Ht, Hpay⟩, Hrest⟩⟩
  ihave Hi := (ctx_cell X K (sdst s c) (n := 0) (by omega)) $$ Hctx
  icases Hi with ⟨#HI, #Hr⟩
  have hd : s ∈ (sched X).duties (kcell (sdst s c) 0) 0 := by rw [duties_bar]; exact Finset.mem_Ico.2 ⟨Nat.zero_le _, hs⟩
  have hpay : barPay (sdst s c) s ⊢ (sched X).payload (((sdst s c : Dev nD) : Thread nD τ), SemLoc.reg barS) 0 s :=
    Entails.of_eq (payload_eq X (sdst s c) (n := 0) (by omega) s).symm
  iapply (Rounds.wp_signal 𝒱₀ ER (sched X) (c : Thread nD τ) none (dst := ((sdst s c : Dev nD) : Thread nD τ)) (κ := K (sdst s c, ⟨0, by omega⟩))
    (d := s) hd (amount_bar X (sdst s c) s) () (owed c (s + 1) 0 0) (owed_bar c hs 0 0)) $$ [HO Ht Hpay]
  · isplitr; · iexact HI
    isplitl [HO]; · iexact HO
    isplitl [Ht]; · iexact Ht
    isplitl [Hpay]; · iapply hpay; iexact Hpay
    iexact Hr
  iintro HO
  iapply hk
  isplitr; · iexact Hctx
  isplitl [HR]; · iexact HR
  isplitl [HO]; · iexists W; iexact HO
  isplitl [Hbar]; · iexact Hbar
  iexact Hrest

/-- What `St` sets aside before and after the device stores its own rows. -/
def aside (X : XIn F) (c : Dev nD) (own : sProp 𝕄) : sProp 𝕄 := iprop(xPts X c ∗ spent c 0 ∗ own)

/-- The barrier: the rows this device is to write on the others come with it. -/
theorem bar_wait {Q : α → sProp 𝕄} {v : ℕ} (hv : v = 6)
    {k : PUnit.{1} → Prog (TpuEff nD τ sig (Elt F) Λ₀ .tc) α} (hk : St X K c (aside X c (ownAny c)) 0 0 0 0 0 0 ⊢ Wp c (k ⟨⟩) Q) :
    SB X K c iprop(xPts X c ∗ ownAny c ∗ bigSep (Finset.Ico 0 12) (slot X c) ∗ toks c) 6 ⊢ Wp c (.op (.semWait barS v) k) Q := by
  subst hv
  have hrooms : bigSep (Finset.Ico 0 6) (barPay c) = iprop(bigSep (Finset.Ico 0 12) (zRoom c) ∗ bigSep (Finset.Ico 0 36) (pRoom (F := F) c)) :=
    pays_all (zRoom c) (pRoom c)
  have hZ : bigSep (Finset.Ico 0 12) (toZ X c) = iprop(bigSep (Finset.Ico 0 12) (zTok c) ∗ bigSep (Finset.Ico 0 12) (slot X c) ∗ bigSep (Finset.Ico 0 12) (zRoom c)) := by
    rw [← bigSep_sep', ← bigSep_sep']
    refine bigSep_congr fun k _ => ?_
    unfold toZ zTok
    refine eq_of_both ?_ ?_
    · iintro ⟨H1, H2, H3, H4, H5⟩
      isplitl [H1 H2 H3]
      · isplitl [H1]; · iexact H1
        isplitl [H2]; · iexact H2
        iexact H3
      isplitl [H4]; · iexact H4
      iexact H5
    · iintro ⟨⟨H1, H2, H3⟩, H4, H5⟩
      isplitl [H1]; · iexact H1
      isplitl [H2]; · iexact H2
      isplitl [H3]; · iexact H3
      isplitl [H4]; · iexact H4
      iexact H5
  have hP : bigSep (Finset.Ico 0 36) (toP c) = iprop(bigSep (Finset.Ico 0 36) (pTok c) ∗ bigSep (Finset.Ico 0 36) (pRoom (F := F) c)) := by
    rw [← bigSep_sep']
    refine bigSep_congr fun k _ => ?_
    unfold toP pTok
    refine eq_of_both ?_ ?_
    · iintro ⟨H1, H2, H3, H4⟩
      isplitl [H1 H2 H3]
      · isplitl [H1]; · iexact H1
        isplitl [H2]; · iexact H2
        iexact H3
      iexact H4
    · iintro ⟨⟨H1, H2, H3⟩, H4⟩
      isplitl [H1]; · iexact H1
      isplitl [H2]; · iexact H2
      isplitl [H3]; · iexact H3
      iexact H4
  unfold St aside owing spent at hk
  rw [hZ, hP] at hk
  unfold SB toks owing
  have hexp := expect_bar X c
  have hrest : bigSep ((sched X).duties ((c : Thread nD τ), SemLoc.reg barS) 0 \ ∅) (fun d => (sched X).payload ((c : Thread nD τ), SemLoc.reg barS) 0 d)
      = iprop(bigSep (Finset.Ico 0 12) (zRoom c) ∗ bigSep (Finset.Ico 0 36) (pRoom c)) := (rest_bar X c).trans hrooms
  have hlev : ctx X K ⊢ MayWait (c : Thread nD τ) (.reg barS) () (owed c 6 0 0) := by
    iintro H
    iapply (mayWait_below c (.reg barS) 6 0 0 1 (by rw [show num (.reg barS) = 0 from num_csem (n := 0) (by omega)]; exact Nat.le_refl 1)
      (fun h => absurd h (by omega)) (fun _ => by omega) (fun _ => by omega))
    iapply (ctx_lev X K)
    iexact H
  iintro ⟨#Hctx, ⟨Hx, Hown, Hsl, Hzt, Hpt, Hzr, Hpr⟩, ⟨%W, HO⟩, ⟨Hcr, Hat⟩, -⟩
  ihave Hi := (ctx_cell X K c (n := 0) (by omega)) $$ Hctx
  icases Hi with ⟨#HI, #HR⟩
  iapply (Rounds.wp_wait_rest_token 𝒱₀ ER (sched X) (c : Thread nD τ) none (κ := K (c, ⟨0, by omega⟩))
      (wpE_semWait_eq 𝒱₀ (c : Thread nD τ) none Set.univ) (Set.mem_univ _) () (O := owed c 6 0 0) (W := W) (R := 0) (m := 0) (T := ∅)
      ((Nat.zero_add 6).trans hexp.symm)) $$ [Hcr HO Hat]
  · isplitr; · iexact HI
    isplitl [Hcr]; · iexact Hcr
    isplitl [HO]; · iexact HO
    isplitr; · iapply hlev; iexact Hctx
    iexact Hat
  iintro ⟨HO, Hat, -, Hpay⟩
  ihave Hp := (Entails.of_eq hrest) $$ Hpay
  icases Hp with ⟨HzR, HpR⟩
  iapply hk
  isplitr; · iexact Hctx
  isplitl [Hx Hat Hown]
  · isplitl [Hx]; · iexact Hx
    isplitl [Hat]; · iexact Hat
    iexact Hown
  isplitl [HO]; · iexists _; iexact HO
  isplitl [Hzt Hsl HzR]
  · isplitl [Hzt]; · iexact Hzt
    isplitl [Hsl]; · iexact Hsl
    iexact HzR
  isplitr; · rw [Finset.Ico_self, bigSep_empty]; iempintro
  isplitr; · rw [Finset.Ico_self, bigSep_empty]; iempintro
  isplitl [Hzr]; · iexact Hzr
  isplitr; · rw [Finset.Ico_self, bigSep_empty]; iempintro
  isplitr; · rw [Finset.Ico_self, bigSep_empty]; iempintro
  isplitl [Hpt HpR]
  · isplitl [Hpt]; · iexact Hpt
    iexact HpR
  isplitr; · rw [Finset.Ico_self, bigSep_empty]; iempintro
  isplitr; · rw [Finset.Ico_self, bigSep_empty]; iempintro
  isplitl [Hpr]; · iexact Hpr
  rw [Finset.Ico_self, bigSep_empty]; iempintro

/-- The device's own rows, stored: the two loads and the store. -/
theorem own_step {Q : α → sProp 𝕄} {a u w j v p : ℕ}
    {o₁ : Fin 2 → ℕ} {inb₁ : ∀ a, o₁ a + S512x512.size a ≤ S512x2048.size a} (h₁ : o₁ = ![0, 512 * zc c])
    {o₂ : Fin 2 → ℕ} {inb₂ : ∀ a, o₂ a + S512x512.size a ≤ S2048x512.size a} (h₂ : o₂ = ![512 * zc c, 0])
    {hl₁ : xM.view.LoadsAt (Rect.unit (s := S512x2048) o₁ S512x512.size inb₁).toLoadRect}
    {hl₂ : oM.view.LoadsAt (Rect.unit (s := S2048x512) o₂ S512x512.size inb₂).toLoadRect}
    {pl : (S512x512.Idx → Elt F .bf16) → S512x512.Idx → Elt F .bf16} (hpl : ∀ v, pl v = v)
    {hx : (oM.access (Rect.unit (s := S2048x512) o₂ S512x512.size inb₂)).Stores Finset.univ}
    {hm : (Finset.univ : Finset (Rect.unit (s := S2048x512) o₂ S512x512.size inb₂).shape.Idx) = Finset.univ
      ∨ ∀ a, (Rect.unit (s := S2048x512) o₂ S512x512.size inb₂).stride a = 1}
    {k : PUnit.{1} → Prog (TpuEff nD τ sig (Elt F) Λ₀ .tc) α}
    (hk : St X K c (aside X c (oPts c (ownS c) fullShare (outF X c))) a u w j v p ⊢ Wp c (k ⟨⟩) Q) :
    St X K c (aside X c (ownAny c)) a u w j v p ⊢ Wp c (.op (.load xM (Rect.unit (s := S512x2048) o₁ S512x512.size inb₁).toLoadRect hl₁) fun x =>
      .op (.load oM (Rect.unit (s := S2048x512) o₂ S512x512.size inb₂).toLoadRect hl₂) fun _ =>
      .op (.store oM (Rect.unit (s := S2048x512) o₂ S512x512.size inb₂) (pl x) Finset.univ hx hm) k) Q := by
  have hset := own_rect c (inb := inb₂) h₂
  unfold St aside xPts at hk ⊢
  unfold ownAny
  unfold oPts at hk ⊢
  iintro ⟨#Hctx, ⟨Hx, Hs, ⟨%f, Ho⟩⟩, Hrest⟩
  iapply (wp_load 𝒱₀ (c : Thread nD τ) none Set.univ (m := xM) (Finset.subset_univ _)) $$ Hx
  iintro Hx
  iapply (wp_load_rect 𝒱₀ (c : Thread nD τ) none Set.univ (m := oM) (r := Rect.unit (s := S2048x512) o₂ S512x512.size inb₂) (S := ownS c) (f := f) (hset ▸ Finset.Subset.refl _)) $$ Ho
  iintro Ho
  iapply (wp_store 𝒱₀ (c : Thread nD τ) none Set.univ (m := oM) (r := Rect.unit (s := S2048x512) o₂ S512x512.size inb₂) (Mk := Finset.univ)
    (hx := hx) (hm := hm) (S := ownS c) (f := f) (hset ▸ Finset.Subset.refl _)) $$ Ho
  iintro Ho
  iapply hk
  isplitr; · iexact Hctx
  isplitr [Hrest]
  · isplitl [Hx]; · iexact Hx
    isplitl [Hs]; · iexact Hs
    iapply (Entails.of_eq (pointsTo_congr (own_store X c (inb := inb₂) (inb' := inb₁) h₂ h₁ f (hpl (xM.view.readAt (Elt F) (Rect.unit (s := S512x2048) o₁ S512x512.size inb₁).toLoadRect (X c))))))
    iexact Ho
  iexact Hrest

/-! ## From one stretch to the next -/

/-- What the device holds at the start beside the input and the send buffer. -/
def startRest (X : XIn F) (K : Dev nD × Fin 97 → ℕ) (c : Dev nD) : sProp 𝕄 := SB X K c iprop(ownAny c ∗ toks c) 0

/-- The full send buffer, by slots. -/
theorem slots_full : bPts c Finset.univ (xbF X c) = bigSep (Finset.Ico 0 12) (slot X c) := by
  unfold bPts slot
  rw [slots_univ, pointsTo_biUnion _ _ slots_disjoint]
  rfl

/-- Once the send buffer is full the signalling may begin. -/
theorem staged : SA X c (startRest X K c) 12 ⊢ SB X K c iprop(xPts X c ∗ ownAny c ∗ bigSep (Finset.Ico 0 12) (slot X c) ∗ toks c) 0 := by
  unfold SA startRest SB
  iintro ⟨Hx, ⟨Hctx, ⟨Hown, Htok⟩, Hrest⟩, ⟨%f, %hf, Hb⟩⟩
  have hb : bPts c Finset.univ f = bigSep (Finset.Ico 0 12) (slot X c) := by
    rw [← slots_full]
    unfold bPts
    exact pointsTo_congr fun i _ => hf i (i 0).isLt
  isplitl [Hctx]; · iexact Hctx
  isplitr [Hrest]
  · isplitl [Hx]; · iexact Hx
    isplitl [Hown]; · iexact Hown
    isplitl [Hb]; · iapply (Entails.of_eq hb); iexact Hb
    iexact Htok
  iexact Hrest

/-- Running one program after another. -/
theorem seq {β : Type} {P : sProp 𝕄} {e : Prog (TpuEff nD τ sig (Elt F) Λ₀ .tc) β} {k : β → Prog (TpuEff nD τ sig (Elt F) Λ₀ .tc) α}
    {Q : α → sProp 𝕄} (M : β → sProp 𝕄) (he : P ⊢ Wp c e M) (hk : ∀ r, M r ⊢ Wp c (k r) Q) : P ⊢ Wp c (e >>= k) Q := by
  unfold Wp at *
  rw [wp_bind]
  exact he.trans (toBI (wp_mono _ _ _ hk))

/-- A program that only returns. -/
theorem done {P : sProp 𝕄} {r : α} {Q : α → sProp 𝕄} (h : P ⊢ Q r) : P ⊢ Wp c (.ret r) Q := by
  unfold Wp
  rw [wp_ret]
  iintro H
  imodintro
  iapply h
  iexact H

end Steps

end Cert.AllToAll

end
-- ==== Proof.Parts.lean ====
/-
# The body, part by part

The steps of `Steps`, with what they ask of an operation said in the kernel's own terms: which device word it names, which
offsets it slices at, which semaphore of an array it uses. Then the body is a walk: each operation advances one counter.
-/
module

public import proofs.«01_k».proof.Proof.Steps

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's device words and offsets -/

/-- The device words of the entry signals, of the copies between planes and of those within the plane. -/
def sdevs : Fin 6 → Dev nD → ℕ := ![k0_dev1, k0_dev2, k0_dev3, k0_dev4, k0_dev5, k0_dev6]
def zdevs : Fin 12 → Dev nD → ℕ :=
  ![k0_dev7, k0_dev8, k0_dev9, k0_dev10, k0_dev11, k0_dev12, k0_dev13, k0_dev14, k0_dev15, k0_dev16, k0_dev17, k0_dev18]
def pdevs : Fin 36 → Dev nD → ℕ :=
  ![k0_dev19, k0_dev20, k0_dev21, k0_dev22, k0_dev23, k0_dev24, k0_dev25, k0_dev26, k0_dev27, k0_dev28, k0_dev29, k0_dev30,
    k0_dev31, k0_dev32, k0_dev33, k0_dev34, k0_dev35, k0_dev36, k0_dev37, k0_dev38, k0_dev39, k0_dev40, k0_dev41, k0_dev42,
    k0_dev43, k0_dev44, k0_dev45, k0_dev46, k0_dev47, k0_dev48, k0_dev49, k0_dev50, k0_dev51, k0_dev52, k0_dev53, k0_dev54]

theorem off2_zblk (c : Dev nD) {k : ℕ} (hk : k < 12) :
    k0_off2 c (BitVec.ofNat 32 (32 * (k % 4))) = ![32 * (zblk (zdst k c) k % 64), 0] := by
  rw [off2_eq c ⟨k % 4, by omega⟩, zblk_zdst ⟨k, hk⟩ c]
theorem off5_zblk (c : Dev nD) {k : ℕ} (hk : k < 12) :
    k0_off5 c (BitVec.ofNat 32 (1 + k / 4)) (BitVec.ofNat 32 (32 * (k % 4))) = ![32 * (zblk c k % 64), 0] := by
  rw [off5_eq c ⟨k / 4, by omega⟩ ⟨k % 4, by omega⟩, show 4 * (k / 4) + k % 4 = k by omega]
theorem off1_slot (c : Dev nD) {k : ℕ} (hk : k < 12) :
    k0_off1 c (BitVec.ofNat 32 (32 * (k % 4))) (BitVec.ofNat 32 (1 + k / 4)) = ![128 * qc c + 32 * (k % 4), 512 * ((zc c + k / 4 + 1) % 4)] :=
  off1_eq c ⟨k / 4, by omega⟩ ⟨k % 4, by omega⟩

/-! ## The steps again -/

section Steps
variable {X : XIn F} {K : Dev nD × Fin 97 → ℕ} {c : Dev nD} {α : Type}

theorem pure_elim {φ : Prop} {P Q : sProp 𝕄} (h : φ → P ⊢ Q) : iprop(⌜φ⌝ ∗ P) ⊢ Q := by
  iintro ⟨%hφ, H⟩
  iapply (h hφ)
  iexact H
theorem pure_add {φ : Prop} {P : sProp 𝕄} (h : φ) : P ⊢ iprop(⌜φ⌝ ∗ P) := by
  iintro H
  isplitr; · ipureintro; exact h
  iexact H

/-- Loading block `n` of the input. -/
theorem load_block {Q : α → sProp 𝕄} {R : sProp 𝕄} {n : ℕ} {r : LoadRect S512x2048} {hl : xM.view.LoadsAt r}
    {k : (r.shape.Idx → Elt F .bf16) → Prog (TpuEff nD τ sig (Elt F) Λ₀ .tc) α}
    (hk : SA X c R n ⊢ Wp c (k (xM.view.readAt (Elt F) r (X c))) Q) : SA X c R n ⊢ Wp c (.op (.load xM r hl) k) Q := by
  unfold SA at hk ⊢
  exact load_x hk

/-- Copying block `n` of the input into slot `n`: the two loads and the store. -/
theorem stage {Q : α → sProp 𝕄} {R : sProp 𝕄} {n : ℕ} (hn : n < 12) {b d : BitVec 32} (hb : b = BitVec.ofNat 32 (32 * (n % 4)))
    (hd : d = BitVec.ofNat 32 (1 + n / 4))
    {inb : ∀ a, (![n, 0, 0] : Fin 3 → ℕ) a + S1x32x512.size a ≤ S12x32x512.size a}
    {inb' : ∀ a, k0_off1 c b d a + S32x512.size a ≤ S512x2048.size a}
    {hl : xM.view.LoadsAt (Rect.unit (s := S512x2048) (k0_off1 c b d) S32x512.size inb').toLoadRect}
    {hl' : bM.view.LoadsAt (Rect.unit (s := S12x32x512) ![n, 0, 0] S1x32x512.size inb).toLoadRect}
    {pl : (S32x512.Idx → Elt F .bf16) → S1x32x512.Idx → Elt F .bf16} (hpl : ∀ v i, pl v i = v (fun a => i a.succ))
    {hx : (bM.access (Rect.unit (s := S12x32x512) ![n, 0, 0] S1x32x512.size inb)).Stores Finset.univ}
    {hm : (Finset.univ : Finset (Rect.unit (s := S12x32x512) ![n, 0, 0] S1x32x512.size inb).shape.Idx) = Finset.univ
      ∨ ∀ a, (Rect.unit (s := S12x32x512) ![n, 0, 0] S1x32x512.size inb).stride a = 1}
    {k : PUnit.{1} → Prog (TpuEff nD τ sig (Elt F) Λ₀ .tc) α} (hk : SA X c R (n + 1) ⊢ Wp c (k ⟨⟩) Q) :
    SA X c R n ⊢ Wp c (.op (.load xM (Rect.unit (s := S512x2048) (k0_off1 c b d) S32x512.size inb').toLoadRect hl) fun x =>
      .op (.load bM (Rect.unit (s := S12x32x512) ![n, 0, 0] S1x32x512.size inb).toLoadRect hl') fun _ =>
      .op (.store bM (Rect.unit (s := S12x32x512) ![n, 0, 0] S1x32x512.size inb) (pl x) Finset.univ hx hm) k) Q := by
  subst hb hd
  exact load_block (load_b fun _ => store_b hn (off1_slot c hn) (hpl _) hk)

/-- The block stored is the block loaded, with an axis of size one in front. -/
theorem pay_slot {pl : (S32x512.Idx → Elt F .bf16) → S1x32x512.Idx → Elt F .bf16}
    (h : pl = fun v => shapeCast S1x32x512 (shapeCast S32x512 v shapeCasts_S32x512_S32x512) shapeCasts_S32x512_S1x32x512) (v : S32x512.Idx → Elt F .bf16)
    (i : S1x32x512.Idx) : pl v i = v (fun a => i a.succ) := by
  subst h
  show shapeCast S1x32x512 (shapeCast S32x512 v shapeCasts_S32x512_S32x512) shapeCasts_S32x512_S1x32x512 i = _
  rw [shapeCast_self]
  exact shapeCast_addUnit_apply ![32, 512] _ _ i

/-- Sending block `a` between planes. -/
theorem z_send {Q : α → sProp 𝕄} {R : sProp 𝕄} {a u w j v p : ℕ} (ha : a < 12) (hu : u ≤ a) {n : Dev nD} (hn : n.val = zdevs ⟨a, ha⟩ c)
    {sS sem : DmaSem sig} (hS : csem (1 + a) = .dma sS) (hR : csem (13 + a) = .dma sem)
    {src dst : Memref sig .tc .vmem S32x512 .bf16} (hs : src = slM a)
    (hd : ∃ inb, dst = oM.slice (Rect.unit (s := S2048x512) (k0_off2 c (BitVec.ofNat 32 (32 * (a % 4)))) S32x512.size inb) (fun _ => rfl))
    {hsc : dst.view.ref.isScScratch = false} {hsrc : src.view.WordExact} {hdst : dst.view.WordExact}
    {hsem : DmaTarget.Typed .vmem (.dma sem) (.remote (Dev.tc n : Thread nD τ) dst (.dma sS) hsc)}
    {k : PUnit.{1} → Prog (TpuEff nD τ sig (Elt F) Λ₀ .tc) α} (hk : St X K c R (a + 1) u w j v p ⊢ Wp c (k ⟨⟩) Q) :
    St X K c R a u w j v p ⊢ Wp c (.op (.enqueueDma src (.remote (Dev.tc n : Thread nD τ) dst (.dma sS) hsc) (.dma sem) hsrc hdst hsem) k) Q := by
  obtain ⟨inb, hd⟩ := hd
  exact send_z ha hu (Fin.ext (hn.trans (zdev_eq ⟨a, ha⟩ c))) hS hR hs (hd.trans (ch_of_off (off2_zblk c ha))) hk

/-- Copy `j` within the plane. -/
theorem p_send {Q : α → sProp 𝕄} {R : sProp 𝕄} {u w j v p : ℕ} (hj : j < 3 * w) (hw : w ≤ 12) (hv : v ≤ j) {n : Dev nD}
    (hn : n.val = pdevs ⟨j, by omega⟩ c) {sS sem : DmaSem sig} (hS : csem (25 + j) = .dma sS) (hR : csem (61 + j) = .dma sem)
    {src dst : Memref sig .tc .vmem S32x512 .bf16}
    (hs : ∃ inb, src = oM.slice (Rect.unit (s := S2048x512) (k0_off5 c (BitVec.ofNat 32 (1 + j / 3 / 4)) (BitVec.ofNat 32 (32 * (j / 3 % 4)))) S32x512.size inb) (fun _ => rfl))
    (hd : dst = src)
    {hsc : dst.view.ref.isScScratch = false} {hsrc : src.view.WordExact} {hdst : dst.view.WordExact}
    {hsem : DmaTarget.Typed .vmem (.dma sem) (.remote (Dev.tc n : Thread nD τ) dst (.dma sS) hsc)}
    {k : PUnit.{1} → Prog (TpuEff nD τ sig (Elt F) Λ₀ .tc) α} (hk : St X K c R 12 u w (j + 1) v p ⊢ Wp c (k ⟨⟩) Q) :
    St X K c R 12 u w j v p ⊢ Wp c (.op (.enqueueDma src (.remote (Dev.tc n : Thread nD τ) dst (.dma sS) hsc) (.dma sem) hsrc hdst hsem) k) Q := by
  obtain ⟨inb, hs⟩ := hs
  have hs' := hs.trans (ch_of_off (off5_zblk c (k := j / 3) (by omega)))
  exact send_p hj hw hv (Fin.ext (hn.trans (pdev_eq ⟨j, by omega⟩ c))) hS hR hs' (hd.trans hs') hk

/-- Entry signal `s`. -/
theorem entry_signal {Q : α → sProp 𝕄} {R : sProp 𝕄} {s : ℕ} (hs : s < 6) {n : Dev nD} (hn : n.val = sdevs ⟨s, hs⟩ c) {v : ℤ} (hv : v = 1)
    {sm : Sem sig} (hsm : sm = barS)
    {k : PUnit.{1} → Prog (TpuEff nD τ sig (Elt F) Λ₀ .tc) α} (hk : SB X K c R (s + 1) ⊢ Wp c (k ⟨⟩) Q) :
    SB X K c R s ⊢ Wp c (.op (.semSignal ((n, Proc.tc) : Thread nD τ) sm v) k) Q := by
  subst hsm hv
  exact signal hs (Fin.ext (hn.trans (sdev_eq ⟨s, hs⟩ c))) (v := 1) rfl hk

/-- The barrier's wait. -/
theorem entry_wait {Q : α → sProp 𝕄} {v : ℤ} (hv : v = 6) {sm : Sem sig} (hsm : sm = barS)
    {k : PUnit.{1} → Prog (TpuEff nD τ sig (Elt F) Λ₀ .tc) α} (hk : St X K c (aside X c (ownAny c)) 0 0 0 0 0 0 ⊢ Wp c (k ⟨⟩) Q) :
    SB X K c iprop(xPts X c ∗ ownAny c ∗ bigSep (Finset.Ico 0 12) (slot X c) ∗ toks c) 6 ⊢ Wp c (.op (.semWait sm v) k) Q := by
  subst hsm hv
  exact bar_wait (v := 6) rfl hk

end Steps

end Cert.AllToAll

end
-- ==== Proof.Walk.lean ====
/-
# The walk through the body

The body is cut into parts. Between two parts stands what is held there: the counters of `SA`, `SB` and `St` say how many of
each kind of operation lie behind. The parts in between are then walked through by the steps of `Parts`.
-/
module

public import proofs.«01_k».proof.Proof.Parts

@[expose] public section

set_option maxRecDepth 10000
set_option maxHeartbeats 1000000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Walk
variable {X : XIn F} {K : Dev nD × Fin 97 → ℕ} {c : Dev nD} {α : Type}

/-- Reading the device's own number. -/
theorem own_id {P : sProp 𝕄} {Q : α → sProp 𝕄} {k : Dev nD → Prog (TpuEff nD τ sig (Elt F) Λ₀ .tc) α} (hk : P ⊢ Wp c (k c) Q) :
    P ⊢ Wp c (.op .deviceId k) Q := by
  rw [Wp, wp_deviceId]
  exact hk

/-- The rest of a program from what a first stretch leaves, and then that stretch. -/
theorem upto {β : Type} {P : sProp 𝕄} {Q : α → sProp 𝕄} (M : β → sProp 𝕄) {e : Prog (TpuEff nD τ sig (Elt F) Λ₀ .tc) β}
    {k : β → Prog (TpuEff nD τ sig (Elt F) Λ₀ .tc) α} (hk : ∀ r, M r ⊢ Wp c (k r) Q) (he : P ⊢ Wp c e M) : P ⊢ Wp c (e >>= k) Q :=
  seq M he hk

/-- What lies by when the send buffer is filled; what lies by before, and after, the device's own rows are written. -/
abbrev filled (X : XIn F) (c : Dev nD) : sProp 𝕄 := iprop(xPts X c ∗ ownAny c ∗ bigSep (Finset.Ico 0 12) (slot X c) ∗ toks c)
abbrev before (X : XIn F) (c : Dev nD) : sProp 𝕄 := aside X c (ownAny c)
abbrev after (X : XIn F) (c : Dev nD) : sProp 𝕄 := aside X c (oPts c (ownS c) fullShare (outF X c))

/-- Block 9 of the input, as one part hands it to the next. -/
def kept (X : XIn F) (c : Dev nD) : FVec F S32x512 .bf16 :=
  k0_pay10 (xM.view.readAt (Elt F) (Rect.unit (s := S512x2048) (k0_off1 c 32#32 3#32) S32x512.size (k0_off1_inb c 1 2)).toLoadRect (X c))

/-- Storing block 9, as handed over. -/
theorem store_kept {Q : α → sProp 𝕄} {R : sProp 𝕄} {inb : ∀ a, (![9, 0, 0] : Fin 3 → ℕ) a + S1x32x512.size a ≤ S12x32x512.size a}
    {hx : (bM.access (Rect.unit (s := S12x32x512) ![9, 0, 0] S1x32x512.size inb)).Stores Finset.univ}
    {hm : (Finset.univ : Finset (Rect.unit (s := S12x32x512) ![9, 0, 0] S1x32x512.size inb).shape.Idx) = Finset.univ
      ∨ ∀ a, (Rect.unit (s := S12x32x512) ![9, 0, 0] S1x32x512.size inb).stride a = 1}
    {k : PUnit.{1} → Prog (TpuEff nD τ sig (Elt F) Λ₀ .tc) α} (hk : SA X c R 10 ⊢ Wp c (k ⟨⟩) Q) :
    SA X c R 9 ⊢ Wp c (.op (.store bM (Rect.unit (s := S12x32x512) ![9, 0, 0] S1x32x512.size inb) (k0_pay11 (kept X c)) Finset.univ hx hm) k) Q :=
  store_b (by decide) (off1_slot c (k := 9) (by decide)) (pay_slot (pl := fun v => k0_pay11 (k0_pay10 v)) rfl _) hk

/-- The body but for its last three waits. -/
theorem walk54 :
    SA X c (startRest X K c) 0 ⊢ Wp c (k0_part54 xM (Memref.isWhole_whole _) oM (Memref.isWhole_whole _) bM (Memref.isWhole_whole _) cc0_scratch1 cc0_scratch2 cc0_scratch3 cc0_scratch4)
      (fun r => iprop(⌜r = c⌝ ∗ St X K c (after X c) 12 12 12 36 33 36)) := by
  rw [k0_part54_eq_skeleton, k0_part54_skel]
  refine upto (fun r => iprop(⌜r.1 = c⌝ ∗ SA X c (startRest X K c) 1)) (fun ⟨d0, v2, v5, v8, v10, v21, v33, v34⟩ => pure_elim fun (h : d0 = c) => ?_) ?_
  subst d0
  refine upto (fun _ => SA X c (startRest X K c) 4) (fun ⟨v64, v65, v66, v69⟩ => ?_) ?_
  refine upto (fun _ => SA X c (startRest X K c) 7) (fun ⟨v104, v105⟩ => ?_) ?_
  refine upto (fun r => iprop(⌜r.2.1 = kept X c⌝ ∗ SA X c (startRest X K c) 9)) (fun ⟨v123, v140, v141⟩ => pure_elim fun (h : v140 = kept X c) => ?_) ?_
  subst v140
  refine upto (fun r => iprop(⌜r.2.2.2.2.1 = SemArray.scalar (sig.barrier 0 rfl)⌝ ∗ SB X K c (filled X c) 0)) (fun ⟨v164, v165, v166, v167, v168, v171, v172, v173, v174, v175⟩ => pure_elim fun (h : v168 = SemArray.scalar (sig.barrier 0 rfl)) => ?_) ?_
  subst v168
  refine upto (fun _ => SB X K c (filled X c) 2) (fun ⟨v205, v206, v207, v208, v209⟩ => ?_) ?_
  refine upto (fun _ => St X K c (before X c) 0 0 0 0 0 0) (fun ⟨v238, c4_i32_133, v239⟩ => ?_) ?_
  refine upto (fun _ => St X K c (before X c) 1 0 0 0 0 0) (fun ⟨v248, v271, v272⟩ => ?_) ?_
  refine upto (fun _ => St X K c (before X c) 3 0 0 0 0 0) (fun _ => ?_) ?_
  refine upto (fun _ => St X K c (before X c) 4 0 0 0 0 0) (fun _ => ?_) ?_
  refine upto (fun _ => St X K c (before X c) 6 0 0 0 0 0) (fun _ => ?_) ?_
  refine upto (fun _ => St X K c (before X c) 8 0 0 0 0 0) (fun ⟨v406, v407, c128_i32_256⟩ => ?_) ?_
  refine upto (fun _ => St X K c (before X c) 10 0 0 0 0 0) (fun _ => ?_) ?_
  refine upto (fun _ => St X K c (before X c) 11 0 0 0 0 0) (fun _ => ?_) ?_
  refine upto (fun _ => St X K c (after X c) 12 0 1 0 0 0) (fun _ => ?_) ?_
  refine upto (fun _ => St X K c (after X c) 12 0 1 2 0 0) (fun _ => ?_) ?_
  refine upto (fun _ => St X K c (after X c) 12 0 2 4 0 0) (fun ⟨v572, c4_i32_377⟩ => ?_) ?_
  refine upto (fun _ => St X K c (after X c) 12 0 3 6 0 0) (fun ⟨v606, c128_i32_400⟩ => ?_) ?_
  refine upto (fun _ => St X K c (after X c) 12 0 3 8 0 0) (fun _ => ?_) ?_
  refine upto (fun _ => St X K c (after X c) 12 0 4 10 0 0) (fun _ => ?_) ?_
  refine upto (fun _ => St X K c (after X c) 12 0 4 12 0 0) (fun _ => ?_) ?_
  refine upto (fun _ => St X K c (after X c) 12 0 5 13 0 0) (fun _ => ?_) ?_
  refine upto (fun _ => St X K c (after X c) 12 0 6 15 0 0) (fun _ => ?_) ?_
  refine upto (fun _ => St X K c (after X c) 12 0 6 17 0 0) (fun _ => ?_) ?_
  refine upto (fun _ => St X K c (after X c) 12 0 7 19 0 0) (fun _ => ?_) ?_
  refine upto (fun _ => St X K c (after X c) 12 0 8 21 0 0) (fun _ => ?_) ?_
  refine upto (fun _ => St X K c (after X c) 12 0 8 23 0 0) (fun _ => ?_) ?_
  refine upto (fun _ => St X K c (after X c) 12 0 9 24 0 0) (fun ⟨v922, v939, v940⟩ => ?_) ?_
  refine upto (fun _ => St X K c (after X c) 12 0 9 27 0 0) (fun _ => ?_) ?_
  refine upto (fun _ => St X K c (after X c) 12 0 10 28 0 0) (fun _ => ?_) ?_
  refine upto (fun _ => St X K c (after X c) 12 0 11 30 0 0) (fun _ => ?_) ?_
  refine upto (fun _ => St X K c (after X c) 12 0 11 33 0 0) (fun _ => ?_) ?_
  refine upto (fun _ => St X K c (after X c) 12 0 12 34 0 0) (fun ⟨v1106, v1107⟩ => ?_) ?_
  refine upto (fun _ => St X K c (after X c) 12 0 12 36 0 1) (fun ⟨v1140, c1_i32_763⟩ => ?_) ?_
  refine upto (fun _ => St X K c (after X c) 12 0 12 36 0 4) (fun _ => ?_) ?_
  refine upto (fun _ => St X K c (after X c) 12 0 12 36 0 7) (fun _ => ?_) ?_
  refine upto (fun _ => St X K c (after X c) 12 0 12 36 0 11) (fun _ => ?_) ?_
  refine upto (fun _ => St X K c (after X c) 12 0 12 36 0 14) (fun _ => ?_) ?_
  refine upto (fun _ => St X K c (after X c) 12 0 12 36 0 17) (fun _ => ?_) ?_
  refine upto (fun _ => St X K c (after X c) 12 0 12 36 0 20) (fun _ => ?_) ?_
  refine upto (fun _ => St X K c (after X c) 12 0 12 36 0 23) (fun _ => ?_) ?_
  refine upto (fun _ => St X K c (after X c) 12 0 12 36 0 26) (fun _ => ?_) ?_
  refine upto (fun _ => St X K c (after X c) 12 0 12 36 0 29) (fun _ => ?_) ?_
  refine upto (fun _ => St X K c (after X c) 12 0 12 36 0 33) (fun _ => ?_) ?_
  refine upto (fun _ => St X K c (after X c) 12 0 12 36 0 36) (fun _ => ?_) ?_
  refine upto (fun _ => St X K c (after X c) 12 5 12 36 0 36) (fun _ => ?_) ?_
  refine upto (fun _ => St X K c (after X c) 12 9 12 36 0 36) (fun _ => ?_) ?_
  refine upto (fun _ => St X K c (after X c) 12 12 12 36 2 36) (fun _ => ?_) ?_
  refine upto (fun _ => St X K c (after X c) 12 12 12 36 8 36) (fun _ => ?_) ?_
  refine upto (fun _ => St X K c (after X c) 12 12 12 36 14 36) (fun _ => ?_) ?_
  refine upto (fun _ => St X K c (after X c) 12 12 12 36 20 36) (fun _ => ?_) ?_
  refine upto (fun _ => St X K c (after X c) 12 12 12 36 26 36) (fun _ => ?_) ?_
  refine upto (fun _ => St X K c (after X c) 12 12 12 36 32 36) (fun _ => ?_) ?_

  all_goals simp -proj only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, semSignalWord, semWaitWord, Prog.lift, Prog.bind_op, Prog.bind_ret, Prog.pure_eq_ret]
  all_goals repeat first
    | with_reducible exact done .rfl
    | with_reducible refine wait_ps (u := 12) (p := 36) ?_ ?_ ?_ ?_
      rotate_left 3
    | with_reducible refine wait_zs (v := 0) (p := 36) ?_ ?_ ?_ ?_
      rotate_left 3
    | with_reducible refine wait_pr (u := 0) (v := 0) ?_ ?_ ?_ ?_
      rotate_left 3
    | with_reducible refine wait_zr ?_ ?_ ?_ ?_ ?_
      rotate_left 4
    | with_reducible refine p_send ?_ ?_ ?_ ?_ ?_ ?_ ?_ ?_ ?_
      rotate_left 8
    | with_reducible refine z_send ?_ ?_ ?_ ?_ ?_ ?_ ?_ ?_
      rotate_left 7
    | with_reducible refine entry_signal ?_ ?_ ?_ ?_ ?_
      rotate_left 4
    | with_reducible refine entry_wait ?_ ?_ ?_
      rotate_left 2
    | with_reducible refine own_id ?_
    | with_reducible refine store_kept ?_
    | with_reducible refine done (pure_add ?_)
    | with_reducible refine done (staged.trans (pure_add ?_))
    | with_reducible refine load_block (load_b fun _ => done (pure_add ?_))
    | refine stage (by decide) rfl rfl (pay_slot rfl) ?_
  all_goals try first | rfl | exact ⟨_, rfl⟩ | decide | exact pay_slot rfl
  refine own_step (off3_eq c) (off4_eq c) ?_ ?_
  · exact fun v => shapeCast_self v _
  with_reducible refine wait_zr ?_ ?_ ?_ ?_ ?_
  rotate_left 4
  · exact done .rfl
  all_goals first | rfl | decide

/-- The body. -/
theorem walk :
    SA X c (startRest X K c) 0 ⊢ Wp c (cc0_body xM (Memref.isWhole_whole _) oM (Memref.isWhole_whole _) bM (Memref.isWhole_whole _) cc0_scratch1 cc0_scratch2 cc0_scratch3 cc0_scratch4)
      (fun _ => St X K c (after X c) 12 12 12 36 36 36) := by
  rw [cc0_body_eq_skeleton, cc0_body_skel]
  refine upto _ (fun d0 => pure_elim fun (h : d0 = c) => ?_) walk54
  subst d0
  simp -proj only [Prog.lift, Prog.bind_op, Prog.bind_ret, Prog.pure_eq_ret]
  iterate 3
    with_reducible refine wait_ps ?_ ?_ ?_ ?_
    rotate_left 3
  · exact done .rfl
  all_goals first | rfl | decide

end Walk

end Cert.AllToAll

end
-- ==== Proof.Ends.lean ====
/-
# The two ends of the body

Before the body, a device holds its buffers whole, its positions at its semaphores and the tokens and credits it was dealt;
that is what the walk starts from. After it, the parts of the buffers come together again and every semaphore is closed.
-/
module

public import proofs.«01_k».proof.Proof.Walk

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ends
variable {X : XIn F} {K : Dev nD × Fin 97 → ℕ} {c : Dev nD}

/-! ## The semaphores by their five kinds -/

/-- A run of numbers, counted from its first. -/
theorem bigSep_Ico_from (a n : ℕ) (A : ℕ → sProp 𝕄) :
    bigSep (Finset.Ico a (a + n)) A = bigSep (Finset.Ico 0 n) (fun k => A (a + k)) := by
  induction n with
  | zero => rw [Nat.add_zero, Finset.Ico_self, Finset.Ico_self, bigSep_empty, bigSep_empty]
  | succ n ih => rw [← Nat.add_assoc, bigSep_Ico_succ_top (by omega), bigSep_Ico_succ_top (by omega), ih]

/-- The 97 semaphores by kind. -/
theorem by_kind (A : ℕ → sProp 𝕄) :
    bigSep (Finset.Ico 0 97) A = iprop(A 0 ∗ bigSep (Finset.Ico 0 12) (fun k => A (1 + k)) ∗ bigSep (Finset.Ico 0 12) (fun k => A (13 + k))
      ∗ bigSep (Finset.Ico 0 36) (fun j => A (25 + j)) ∗ bigSep (Finset.Ico 0 36) (fun j => A (61 + j))) := by
  rw [bigSep_Ico_succ_bot (by omega), bigSep_Ico_join (a := 0 + 1) (b := 13) (by omega) (by omega),
    bigSep_Ico_join (a := 13) (b := 25) (by omega) (by omega), bigSep_Ico_join (a := 25) (b := 61) (by omega) (by omega)]
  show iprop(A 0 ∗ bigSep (Finset.Ico 1 (1 + 12)) A ∗ bigSep (Finset.Ico 13 (13 + 12)) A ∗ bigSep (Finset.Ico 25 (25 + 36)) A
    ∗ bigSep (Finset.Ico 61 (61 + 36)) A) = _
  rw [bigSep_Ico_from, bigSep_Ico_from, bigSep_Ico_from, bigSep_Ico_from]

/-! ## Before the body -/

/-- The device's position at each of its semaphores: none waited for. -/
def places (c : Dev nD) : sProp 𝕄 := bigSep (Finset.Ico 0 97) fun n => atPos ER (kcell c n) 0 ∅ 0

/-- The tokens of the raises the device makes. -/
def raises (c : Dev nD) : sProp 𝕄 :=
  iprop(bigSep (Finset.Ico 0 6) (fun s => dutyTok ER (kcell (sdst s c) 0) 0 s)
    ∗ bigSep (Finset.Ico 0 12) (fun k => dutyTok ER (kcell c (1 + k)) 0 0)
    ∗ bigSep (Finset.Ico 0 12) (fun k => dutyTok ER (kcell (zdst k c) (13 + k)) 0 0)
    ∗ bigSep (Finset.Ico 0 36) (fun j => dutyTok ER (kcell c (25 + j)) 0 0)
    ∗ bigSep (Finset.Ico 0 36) (fun j => dutyTok ER (kcell (peer j c) (61 + j)) 0 0))

/-- The credits of the raises others make at the device. -/
def credits (c : Dev nD) : sProp 𝕄 :=
  iprop(cred (tallyAt (kcell c 0) () 6) ∗ bigSep (Finset.Ico 0 12) (fun k => cred (tallyAt (kcell c (13 + k)) () N))
    ∗ bigSep (Finset.Ico 0 36) (fun j => cred (tallyAt (kcell c (61 + j)) () N)))

/-- The result buffer by the device's own rows, the rows of the blocks from other planes and those of the copies. -/
theorem rows_split (c : Dev nD) (f : S2048x512.Idx → Elt F .bf16) :
    oPts c Finset.univ fullShare f = iprop(oPts c (ownS c) fullShare f ∗ bigSep (Finset.Ico 0 12) (fun k => oPts c (chS (zblk c k)) fullShare f)
      ∗ bigSep (Finset.Ico 0 36) (fun j => oPts c (chS (pblk c j)) fullShare f)) := by
  unfold oPts
  rw [rows_univ c, toEq (pointsTo_union (rows_disjoint c)), toEq (pointsTo_union (zS_pS_disjoint c))]
  unfold zS pS
  rw [pointsTo_biUnion _ _ (zS_disjoint c), pointsTo_biUnion _ _ (pS_disjoint c)]

theorem zdst_sdst_fin : ∀ (s : Fin 3) (k : Fin 4) (c : Dev nD), zdst (4 * (2 - s.val) + k.val) (sdst s c) = c := by decide +kernel
theorem sdst_peer {s : ℕ} (h : ¬ s < 3) : sdst s c = peer (s - 3) c := if_neg h
theorem peer_sdst {s : ℕ} (h : ¬ s < 3) (hs : s < 6) (t : ℕ) : peer (3 * t + (s - 3)) (sdst s c) = c := by
  rw [sdst_peer h, peer_mod, show (3 * t + (s - 3)) % 3 = s - 3 by omega]
  exact peer_peer (s - 3) c

/-- The rows of the result that others write, by the signals that hand them over. -/
theorem rooms {s : ℕ} (hs : s < 6) :
    barPay (F := F) (sdst s c) s = pays (fun k => iprop(∃ f, oPts c (chS (zblk c k)) fullShare f)) (fun j => iprop(∃ f, oPts c (chS (pblk c j)) fullShare f)) s := by
  unfold barPay pays
  by_cases h : s < 3
  · rw [if_pos h, if_pos h]
    refine bigSep_congr fun k hk => ?_
    rw [Finset.mem_Ico] at hk
    have e : zdst k (sdst s c) = c := by
      have := zdst_sdst_fin ⟨s, h⟩ ⟨k - 4 * (2 - s), by omega⟩ c
      rwa [show 4 * (2 - s) + (k - 4 * (2 - s)) = k by omega] at this
    unfold zRoom
    rw [e]
  · rw [if_neg h, if_neg h]
    refine bigSep_congr fun t _ => ?_
    have e := peer_sdst (c := c) h hs t
    have e' : zblk (sdst s c) ((3 * t + (s - 3)) / 3) = pblk c (3 * t + (s - 3)) := by
      unfold pblk
      rw [sdst_peer h, peer_mod (3 * t + (s - 3)), show (3 * t + (s - 3)) % 3 = s - 3 by omega]
    unfold pRoom
    rw [e, e']

/-- The result buffer, holding anything, is the device's own rows and what the six signals hand over. -/
theorem rooms_all : iprop(∃ f, oPts c Finset.univ fullShare f) ⊢ iprop(ownAny (F := F) c ∗ bigSep (Finset.Ico 0 6) (fun s => barPay (sdst s c) s)) := by
  rw [bigSep_congr (s := Finset.Ico 0 6) (fun s hs => rooms (F := F) (c := c) (Finset.mem_Ico.1 hs).2), pays_all]
  iintro ⟨%f, H⟩
  ihave H' := (Entails.of_eq (rows_split c f)) $$ H
  icases H' with ⟨Ho, Hz, Hp⟩
  isplitl [Ho]
  · unfold ownAny; iexists f; iexact Ho
  isplitl [Hz]
  · iapply (each (S := Finset.Ico 0 12) (A := fun k => oPts c (chS (zblk c k)) fullShare f)
      (B := fun k => iprop(∃ f, oPts c (chS (zblk c k)) fullShare f)) fun k _ => by iintro H; iexists f; iexact H)
    iexact Hz
  · iapply (each (S := Finset.Ico 0 36) (A := fun j => oPts c (chS (pblk c j)) fullShare f)
      (B := fun j => iprop(∃ f, oPts c (chS (pblk c j)) fullShare f)) fun k _ => by iintro H; iexists f; iexact H)
    iexact Hp

/-- What the walk starts from. -/
theorem start_walk :
    iprop(ctx X K ∗ owing c 0 0 0 ∗ places c ∗ raises c ∗ credits c ∗ xPts X c ∗ (∃ f, oPts c Finset.univ fullShare f) ∗ (∃ f, bPts c Finset.univ f))
      ⊢ SA X c (startRest X K c) 0 := by
  unfold places raises credits SA startRest SB toks zTok pTok pend toSig
  rw [by_kind]
  simp only [bigSep_sep']
  iintro ⟨Hctx, How, ⟨Ha0, Ha1, Ha2, Ha3, Ha4⟩, ⟨Ht0, Ht1, Ht2, Ht3, Ht4⟩, ⟨Hc0, Hc1, Hc2⟩, Hx, Ho, ⟨%f, Hb⟩⟩
  ihave Hr := (rooms_all (F := F) (c := c)) $$ Ho
  icases Hr with ⟨Hown, Hr⟩
  isplitl [Hx]; · iexact Hx
  isplitr [Hb]
  · isplitl [Hctx]; · iexact Hctx
    isplitl [Hown Ha1 Ha2 Ha3 Ha4 Ht1 Ht2 Ht3 Ht4 Hc1 Hc2]
    · isplitl [Hown]; · iexact Hown
      isplitl [Ha1 Ht1 Ht2]
      · isplitl [Ht1]; · iexact Ht1
        isplitl [Ht2]; · iexact Ht2
        iexact Ha1
      isplitl [Ha3 Ht3 Ht4]
      · isplitl [Ht3]; · iexact Ht3
        isplitl [Ht4]; · iexact Ht4
        iexact Ha3
      isplitl [Hc1 Ha2]
      · isplitl [Hc1]; · iexact Hc1
        iexact Ha2
      · isplitl [Hc2]; · iexact Hc2
        iexact Ha4
    isplitl [How]; · iexact How
    isplitl [Hc0 Ha0]
    · isplitl [Hc0]; · iexact Hc0
      iexact Ha0
    isplitl [Ht0]; · iexact Ht0
    iexact Hr
  · iexists f
    isplitr; · ipureintro; exact fun i h => absurd h (Nat.not_lt_zero _)
    iexact Hb

/-! ## After the body -/

/-- What is known for good may be used for each of a family. -/
theorem knowing {I : Type} [DecidableEq I] {S : Finset I} {R : sProp 𝕄} [BI.Persistent R] {A B : I → sProp 𝕄}
    (h : ∀ i ∈ S, iprop(R ∗ A i) ⊢ B i) : iprop(R ∗ bigSep S A) ⊢ bigSep S B := by
  iintro ⟨#HR, HA⟩
  ihave HRs := (BI.bigSep_of_persistent S R) $$ HR
  iapply (each h)
  rw [bigSep_sep']
  isplitl [HRs]; · iexact HRs
  iexact HA

/-- A semaphore waited for is closed: its counter at zero is the device's again. -/
theorem close_one {n : ℕ} (h : n < 97) : iprop(ctx X K ∗ spent c n) ⊢ |={Set.univ}=> (semVal (kcell c n) 0 : sProp 𝕄) := by
  unfold spent
  iintro ⟨Hctx, Hat⟩
  ihave HI := (ctx_cell (X := X) (K := K) (c := c) h) $$ Hctx
  icases HI with ⟨#HI, -⟩
  imod (Rounds.cell_close ER (sched X) (Set.mem_univ (K (c, ⟨n, h⟩))) (fun h => h) (R := 0 + 1) (duties_later X (kcell c n))) $$ [Hat] with Hz
  · isplitr; · iexact HI
    iexact Hat
  imodintro
  iexact Hz

/-- So are all. -/
theorem close_all : iprop(ctx X K ∗ bigSep (Finset.Ico 0 97) (spent c)) ⊢ |={Set.univ}=> (bigSep (Finset.Ico 0 97) (fun n => semVal (kcell c n) 0) : sProp 𝕄) :=
  (knowing fun n hn => close_one (Finset.mem_Ico.1 hn).2).trans (toBI (bigSep_fupd _ _))

/-- What the walk ends with: the input as it was, the result and the send buffer whole, nothing owed, every semaphore at zero. -/
theorem end_walk : St X K c (after X c) 12 12 12 36 36 36
    ⊢ |={Set.univ}=> iprop(xPts X c ∗ oPts c Finset.univ fullShare (outF X c) ∗ bPts c Finset.univ (xbF X c) ∗ (∃ W, owes (c : Thread nD τ) 0 W)
      ∗ bigSep (Finset.Ico 0 97) (fun n => semVal (kcell c n) 0)) := by
  have hz : bigSep (Finset.Ico 0 36) (zPart X c) = bigSep (Finset.Ico 0 12) (zGot X c) := by
    refine (bigSep_Ico_three 12 _).trans (bigSep_congr fun k _ => (zGot_thirds k).symm)
  unfold St after aside owing
  rw [owed_none, slots_full, rows_split c (outF X c)]
  simp only [bigSep_sep']
  iintro ⟨Hctx, ⟨Hx, Hs0, Hown⟩, How, -, -, ⟨Hs1, Hb⟩, -, Hs2, -, -, -, ⟨Hs3, Hz⟩, -, ⟨Hs4, Hp⟩⟩
  ihave Hz' := (Entails.of_eq hz) $$ Hz
  imod (close_all (X := X) (K := K) (c := c)) $$ [Hctx Hs0 Hs1 Hs2 Hs3 Hs4] with Hv
  · isplitl [Hctx]; · iexact Hctx
    rw [by_kind]
    isplitl [Hs0]; · iexact Hs0
    isplitl [Hs1]; · iexact Hs1
    isplitl [Hs2]; · iexact Hs2
    isplitl [Hs3]; · iexact Hs3
    iexact Hs4
  imodintro
  isplitl [Hx]; · iexact Hx
  isplitl [Hown Hz' Hp]
  · isplitl [Hown]; · iexact Hown
    isplitl [Hz']; · iexact Hz'
    iexact Hp
  isplitl [Hb]; · iexact Hb
  isplitl [How]; · iexact How
  iexact Hv

end Ends

end Cert.AllToAll

end
-- ==== Proof.Body.lean ====
/-
# The body as the launch sees it

The data of the one grid point: the input is staged whole, the result staged back whole, and what the kernel holds besides
before and after the point. The body's obligation follows from the walk and its two ends.
-/
module

public import proofs.«01_k».proof.Proof.Ends
public import proofs.«01_k».proof.Proof.Gen.KernelIdeal.Points
public import Idealize.ShloMosaic.Lib.Pipeline.Launch
public import Idealize.ShloMosaic.Lib.Pipeline.Kit

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
abbrev mem₀ : MemSt nD τ sig (Elt F) := ⟨m, fun _ => 0, ρ⟩

/-- What each device is given, as staged. -/
def given : XIn F := fun c => (win0_0.blk (0 : Fin 1)).view.read (Elt F) (m ((c : Thread nD τ).loc main_arg0))

/-- What the launch deals a device: the records, its places, the tokens of its raises. -/
def deal (X : XIn F) (c : Dev nD) : sProp 𝕄 := iprop(∃ K, records X K ∗ places c ∗ raises c)

/-- What a device holds besides its buffers before the point, -/
def holds₀ (c : Dev nD) : sProp 𝕄 := iprop(deal (given m) c ∗ credits c ∗ levAts L lv)
/-- with its send buffer, -/
def Φ₀ (c : Dev nD) : sProp 𝕄 := iprop(holds₀ m c ∗ ∃ f, bPts c Finset.univ f)
/-- and after the point: the send buffer, and its semaphores at zero. -/
def Φ₁ (c : Dev nD) : sProp 𝕄 := iprop((∃ f, bPts c Finset.univ f) ∗ bigSep (Finset.Ico 0 97) fun n => semVal (kcell c n) 0)

/-- The data of the launch's one pipeline. -/
def dats (_ : Fin 1) (c : Dev nD) : Dat τ (Elt F) Unit ℕ UU ℕ cfg0 c where
  A w := m ((cfg0.win w).arr.view.loc (c : Thread nD τ))
  after w _ := match w with
    | ⟨0, _⟩ => given m c
    | ⟨1, _⟩ => outF (given m) c
  Φ t := match t with
    | ⟨0, _⟩ => Φ₀ m c
    | ⟨_ + 1, _⟩ => Φ₁ c
  q _ := fullShare
  owed t := match t with
    | ⟨0, _⟩ => owed c 0 0 0
    | ⟨_ + 1, _⟩ => 0

theorem fetched (t : Fin cfg0.N) : (cfg0.win (0 : Fin 2)).fetch t = true := by rw [fin_N0 t]; rfl

/-- Holding the whole of a buffer through its view is holding the buffer. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c` whole, holding `X`. -/
abbrev buffer (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, buffer c cc0_stg0_0 ((dats m 0 c).before (0 : Fin 2) t0_0 d))
    ∗ (∃ d, buffer c cc0_stg1_0 ((dats m 0 c).before (1 : Fin 2) t0_0 d)))
def bodyPost (c : Dev nD) : sProp 𝕄 :=
  iprop(Φ₁ c ∗ (dats m 0 c).owesAt () t0_0.succ ∗ buffer c cc0_stg0_0 (given m c) ∗ buffer c cc0_stg1_0 (outF (given m) c))

/-- The body, from what the launch hands it to what it hands back. -/
theorem body_run (c : Dev nD) :
    bodyPre m c ⊢ Wp c (cc0_body xM (Memref.isWhole_whole _) oM (Memref.isWhole_whole _) bM (Memref.isWhole_whole _) cc0_scratch1 cc0_scratch2 cc0_scratch3 cc0_scratch4)
      (fun _ => bodyPost m c) := by
  unfold bodyPre Φ₀ holds₀ deal Dat.owesAt Pipeline.owesWithin
  rw [show (dats m 0 c).owed t0_0.castSucc = owed c 0 0 0 from rfl]
  iintro ⟨⟨⟨⟨%K, Hrec, Hpl, Hra⟩, Hcr, Hlev⟩, Hb⟩, ⟨%W, %hW, HO⟩, ⟨%d0, %g0, %hg0, Hx⟩, ⟨%d1, %g1, %hg1, Ho⟩⟩
  have hx : g0 = given m c := by rw [hg0]; unfold Dat.before; rw [if_pos (fetched t0_0)]; rfl
  subst hx
  iapply (wp_fupd frame (wpE (defs₀ (F := F)) 𝒱₀ (c : Thread nD τ) none) Set.univ _ _)
  iapply (wp_mono frame (wpE (defs₀ (F := F)) 𝒱₀ (c : Thread nD τ) none) Set.univ
    (Q := fun _ => St (given m) K c (after (given m) c) 12 12 12 36 36 36) fun _ => ?_)
  · iintro H
    imod (end_walk (X := given m) (K := K) (c := c)) $$ H with ⟨Hx, Ho, Hb, ⟨%W', HO⟩, Hv⟩
    imodintro
    unfold bodyPost Φ₁ Dat.owesAt Pipeline.owesWithin
    rw [show (dats m 0 c).owed t0_0.succ = 0 from rfl]
    isplitl [Hb Hv]
    · isplitl [Hb]; · iexists _; iexact Hb
      iexact Hv
    isplitl [HO]
    · iexists W'
      isplitr; · ipureintro; exact fun _ _ => Or.inl trivial
      iexact HO
    isplitl [Hx]
    · iexists _; isplitr; · (ipureintro; rfl)
      unfold xPts; iexact Hx
    iexists _; isplitr; · (ipureintro; rfl)
    unfold oPts; iexact Ho
  · iapply (walk (X := given m) (K := K) (c := c))
    iapply (start_walk (X := given m) (K := K) (c := c))
    unfold ctx owing xPts oPts
    isplitl [Hrec Hlev]
    · isplitl [Hrec]; · iexact Hrec
      iexact Hlev
    isplitl [HO]; · iexists W; iexact HO
    isplitl [Hpl]; · iexact Hpl
    isplitl [Hra]; · iexact Hra
    isplitl [Hcr]; · iexact Hcr
    isplitl [Hx]; · iexact Hx
    isplitl [Ho]; · iexists g1; iexact Ho
    iexact Hb

/-- The body the launch runs at its one point. -/
theorem body_at : (defs₀ (F := F)) Proc.tc 0 (t0_0, cfg0.slots t0_0) = bodyAt0 t0_0 := rfl
theorem body_stages : (bodyAt0 (F := F) t0_0) = cc0_body xM (Memref.isWhole_whole _) oM (Memref.isWhole_whole _) bM (Memref.isWhole_whole _) cc0_scratch1 cc0_scratch2 cc0_scratch3 cc0_scratch4 := by
  unfold bodyAt0
  congr 1

/-- The library's obligation for the body. -/
theorem body_obligation (c : Dev nD) : BodyObligation (dats (F := F) m 0 c) (defs₀ (F := F)) 𝒱₀ () Set.univ := fun t => by
  rw [fin_N0 t]
  rw [bigSep_W0, bigSep_W0]
  simp only [owns_buffer]
  rw [body_at, body_stages, show (dats m 0 c).Φ t0_0.castSucc = Φ₀ m c from rfl, show (dats m 0 c).Φ t0_0.succ = Φ₁ c from rfl,
    show (dats m 0 c).after 0 t0_0 = given m c from rfl, show (dats m 0 c).after 1 t0_0 = outF (given m) c from rfl]
  have h := body_run m c
  unfold bodyPre bodyPost Wp at h
  with_reducible convert h using 6

end Cert.AllToAll

end
-- ==== Proof.Launch.lean ====
/-
# The launch

The cells and tokens are made for all devices at once; each token goes to the device that makes the raise. Each kind of raise
pairs the devices one to one, so dealing a kind out is renaming the devices.
-/
module

public import proofs.«01_k».proof.Proof.Body
public import Idealize.ShloMosaic.Lib.Tactic

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pairings of the devices -/

theorem sdst_injective_fin : ∀ (s : Fin 6) (c d : Dev nD), sdst s c = sdst s d → c = d := by decide +kernel
theorem sdst_bijective {s : ℕ} (h : s < 6) : Function.Bijective (sdst s) :=
  Finite.injective_iff_bijective.1 fun c d => sdst_injective_fin ⟨s, h⟩ c d
theorem zdst_bijective {k : ℕ} (h : k < 12) : Function.Bijective (zdst k) :=
  Finite.injective_iff_bijective.1 (Function.LeftInverse.injective (g := zsrc k) fun c => zsrc_zdst ⟨k, h⟩ c)
theorem peer_bijective (j : ℕ) : Function.Bijective (peer j) :=
  Function.Involutive.bijective (peer_peer j)

/-- A family over the devices and a set of numbers, the devices renamed number by number. -/
theorem renamed {S : Finset ℕ} {f : ℕ → Dev nD → Dev nD} (hf : ∀ t ∈ S, Function.Bijective (f t)) (T : Dev nD → ℕ → sProp 𝕄) :
    (bigSep Finset.univ fun c : Dev nD => bigSep S (T c)) = bigSep Finset.univ fun c : Dev nD => bigSep S fun t => T (f t c) t := by
  induction S using Finset.induction_on with
  | empty => simp only [bigSep_empty]
  | insert a S ha ih =>
    have e (T' : Dev nD → ℕ → sProp 𝕄) : (bigSep Finset.univ fun c : Dev nD => bigSep (insert a S) (T' c))
        = iprop((bigSep Finset.univ fun c : Dev nD => T' c a) ∗ bigSep Finset.univ fun c : Dev nD => bigSep S (T' c)) := by
      rw [← bigSep_sep']
      exact bigSep_congr fun c _ => bigSep_insert ha
    rw [e T, e fun c t => T (f t c) t, ih fun t ht => hf t (Finset.mem_insert_of_mem ht),
      bigSep_univ_equiv (Equiv.ofBijective (f a) (hf a (Finset.mem_insert_self _ _))) fun c => T c a]
    rfl

/-- A family over the numbers below `n`. -/
theorem bigSep_below (n : ℕ) (A : ℕ → sProp 𝕄) : (bigSep Finset.univ fun i : Fin n => A i.val) = bigSep (Finset.Ico 0 n) A := by
  have e : Finset.Ico 0 n = Finset.univ.map (Fin.valEmbedding (n := n)) := by
    ext x
    rw [Finset.mem_Ico, Finset.mem_map]
    exact ⟨fun h => ⟨⟨x, h.2⟩, Finset.mem_univ _, rfl⟩, fun ⟨i, _, h⟩ => ⟨Nat.zero_le _, h ▸ i.isLt⟩⟩
  rw [e, bigSep_map]
  rfl

/-! ## Cells and tokens -/

/-- The kernel's own semaphores: all but the barrier's. -/
abbrev osem (k : Fin 96) : SemLoc sig := csem (1 + k.val)

theorem csem_injective {a b : ℕ} (ha : a < 97) (hb : b < 97) (h : csem a = csem b) : a = b := by
  rw [← num_csem ha, ← num_csem hb, h]

theorem osem_scoped : ∀ k : Fin 96, (osem k).isScoped .tc = true := by decide +kernel
theorem osem_staging : ∀ (k : Fin 96) (w : Fin 2) (s : Fin (spec0 w).nbuf), osem k ≠ .dma ((spec0 w).sem s) := by decide +kernel

theorem ownSemFacts : Pipeline.OwnSemFacts cfg0.spec osem where
  isScoped := osem_scoped
  inj a b h := Fin.ext (by have := csem_injective (by omega) (by omega) h; omega)
  disj := osem_staging

/-- All the semaphores of all the devices. -/
abbrev cellAt (ck : Dev nD × Fin 97) : GSem nD τ sig := kcell ck.1 ck.2.val
theorem cellAt_injective : Function.Injective cellAt := by
  rintro ⟨c, k⟩ ⟨d, l⟩ h
  have h1 : c = d := congrArg (fun g : GSem nD τ sig => g.1.1) h
  have h2 : k = l := Fin.ext (csem_injective k.isLt l.isLt (congrArg Prod.snd h))
  rw [h1, h2]
def cells : Finset (GSem nD τ sig) := Finset.univ.map ⟨cellAt, cellAt_injective⟩

/-- The tokens of a device's semaphores: six of its barrier, one of each other. -/
abbrev tokAt (ci : Dev nD × Fin 102) : GSem nD τ sig × ℕ × ℕ :=
  if ci.2.val < 6 then (kcell ci.1 0, 0, ci.2.val) else (kcell ci.1 (ci.2.val - 5), 0, 0)
theorem tokAt_injective : Function.Injective tokAt := by
  rintro ⟨c, i⟩ ⟨d, j⟩ h
  have hi := i.isLt
  have hj := j.isLt
  have h1 : c = d := by
    have := congrArg (fun x : GSem nD τ sig × ℕ × ℕ => x.1.1.1) h
    dsimp only [tokAt] at this
    split at this <;> split at this <;> exact this
  have h2 := congrArg (fun x : GSem nD τ sig × ℕ × ℕ => num x.1.2) h
  have h3 := congrArg (fun x : GSem nD τ sig × ℕ × ℕ => x.2.2) h
  dsimp only [tokAt] at h2 h3
  have h4 : i = j := by
    refine Fin.ext ?_
    split at h2 <;> split at h2 <;> rename_i ha hb <;> simp only [ha, hb, if_true, if_false] at h3
    · exact h3
    · rw [num_csem (by decide), num_csem (by omega)] at h2; omega
    · rw [num_csem (by omega), num_csem (by decide)] at h2; omega
    · rw [num_csem (by omega), num_csem (by omega)] at h2; omega
  rw [h1, h4]
def tokens : Finset (GSem nD τ sig × ℕ × ℕ) := Finset.univ.map ⟨tokAt, tokAt_injective⟩

/-- The element the launch starts from: the pipeline's, and the kernel's own. -/
def u₀ : UU := (initOf (Pipeline.cells cfgs cellOf_inj) (Pipeline.launchToks cfgs cellOf_inj), initOf cells tokens)

/-- The tokens of device `c`'s semaphores, by kind. -/
def minted (c : Dev nD) : sProp 𝕄 :=
  iprop(bigSep (Finset.Ico 0 6) (fun s => dutyTok ER (kcell c 0) 0 s)
    ∗ bigSep (Finset.Ico 0 12) (fun k => dutyTok ER (kcell c (1 + k)) 0 0) ∗ bigSep (Finset.Ico 0 12) (fun k => dutyTok ER (kcell c (13 + k)) 0 0)
    ∗ bigSep (Finset.Ico 0 36) (fun j => dutyTok ER (kcell c (25 + j)) 0 0) ∗ bigSep (Finset.Ico 0 36) (fun j => dutyTok ER (kcell c (61 + j)) 0 0))

theorem minted_eq (c : Dev nD) :
    (bigSep Finset.univ fun i : Fin 102 => (dutyTok ER (tokAt (c, i)).1 (tokAt (c, i)).2.1 (tokAt (c, i)).2.2 : sProp 𝕄)) = minted c := by
  have hlow {i : ℕ} (h : i < 6) : (if i < 6 then (kcell c 0, 0, i) else (kcell c (i - 5), 0, 0) : GSem nD τ sig × ℕ × ℕ) = (kcell c 0, 0, i) := if_pos h
  have hhigh (a : ℕ) (k : ℕ) (h : 6 ≤ a) : (if a + k < 6 then (kcell c 0, 0, a + k) else (kcell c (a + k - 5), 0, 0) : GSem nD τ sig × ℕ × ℕ) = (kcell c (a - 5 + k), 0, 0) := by
    rw [if_neg (by omega), show a + k - 5 = a - 5 + k by omega]
  refine (bigSep_below 102 (fun i => let x : GSem nD τ sig × ℕ × ℕ := if i < 6 then (kcell c 0, 0, i) else (kcell c (i - 5), 0, 0)
    (dutyTok ER x.1 x.2.1 x.2.2 : sProp 𝕄))).trans ?_
  rw [bigSep_Ico_join (b := 6) (by omega) (by omega), bigSep_Ico_join (a := 6) (b := 18) (by omega) (by omega),
    bigSep_Ico_join (a := 18) (b := 30) (by omega) (by omega), bigSep_Ico_join (a := 30) (b := 66) (by omega) (by omega),
    bigSep_Ico_from 6 12, bigSep_Ico_from 18 12, bigSep_Ico_from 30 36, bigSep_Ico_from 66 36]
  unfold minted
  simp only [hhigh 6 _ (by omega), hhigh 18 _ (by omega), hhigh 30 _ (by omega), hhigh 66 _ (by omega)]
  exact congrArg (fun A : sProp 𝕄 => iprop(A ∗ _)) (bigSep_congr fun i hi => by rw [hlow (Finset.mem_Ico.1 hi).2])

/-- Each token to the device that makes the raise. -/
theorem tokens_dealt : (bigSep Finset.univ fun c : Dev nD => (minted c : sProp 𝕄)) = bigSep Finset.univ fun c : Dev nD => raises c := by
  unfold minted raises
  simp only [bigSep_sep']
  rw [renamed (f := sdst) (fun s hs => sdst_bijective (Finset.mem_Ico.1 hs).2) fun c s => (dutyTok ER (kcell c 0) 0 s : sProp 𝕄),
    renamed (f := zdst) (fun k hk => zdst_bijective (Finset.mem_Ico.1 hk).2) fun c k => (dutyTok ER (kcell c (13 + k)) 0 0 : sProp 𝕄),
    renamed (f := peer) (fun j _ => peer_bijective j) fun c j => (dutyTok ER (kcell c (61 + j)) 0 0 : sProp 𝕄)]

section Launch
variable (X : XIn F)

/-- What the start element deals device `c`. -/
def dealt (c : Dev nD) : sProp 𝕄 :=
  iprop((bigSep Finset.univ fun k : Fin 97 => roundState ER (sched X) (kcell c k.val) 0)
    ∗ (bigSep Finset.univ fun k : Fin 97 => atPos ER (kcell c k.val) 0 ∅ 0)
    ∗ (bigSep Finset.univ fun k : Fin 97 => reached ER (kcell c k.val) 0) ∗ minted c)

theorem fund_cells : BI.own (ER (initOf cells tokens)) ⊢ (|==> bigSep Finset.univ (dealt X) : sProp 𝕄) := by
  have hX (Φ : GSem nD τ sig → sProp 𝕄) : bigSep cells Φ = bigSep Finset.univ fun c : Dev nD => bigSep Finset.univ fun k : Fin 97 => Φ (kcell c k.val) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]
    exact bigSep_congr fun c _ => minted_eq c
  iintro HX
  imod (Rounds.fund ER (sched X) cells tokens) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

/-- The launch's semaphores are the barrier's and the kernel's own. -/
theorem sems_eq (c : Dev nD) :
    iprop((unscopedSems0 c : sProp 𝕄) ∗ Pipeline.ownSems0 (Ix := Unit) (Name := ℕ) (U := UU) (Lvl := ℕ) (Val := Elt F) (τ := τ) osem c)
      = bigSep (Finset.Ico 0 97) fun n => semVal (kcell c n) 0 := by
  have hu : (unscopedSems0 c : sProp 𝕄) = semVal (kcell c 0) 0 := by
    unfold unscopedSems0
    rw [bigSep_eq_bigSepL_of_eq [SemLoc.reg barS] (by decide +kernel) (by decide)]
    rfl
  have ho : (Pipeline.ownSems0 (Ix := Unit) (Name := ℕ) (U := UU) (Lvl := ℕ) (Val := Elt F) (τ := τ) osem c : sProp 𝕄)
      = bigSep (Finset.Ico 0 96) fun k => semVal (kcell c (1 + k)) 0 :=
    bigSep_below 96 fun k => semVal (kcell c (1 + k)) 0
  rw [hu, ho, bigSep_Ico_succ_bot (a := 0) (b := 97) (by omega), ← bigSep_Ico_from 1 96 (fun n => semVal (kcell c n) 0)]

/-- Opening the cells of one device. -/
theorem cells_open (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k : Fin 97 => iprop(∃ κ : ℕ, cellInv ER (sched X) κ (kcell c k.val)))
          ∗ (bigSep Finset.univ fun k : Fin 97 => atPos ER (kcell c k.val) 0 ∅ 0)
          ∗ (bigSep Finset.univ fun k : Fin 97 => reached ER (kcell c k.val) 0) ∗ minted c) := by
  have hopen : iprop((bigSep Finset.univ fun k : Fin 97 => semVal (kcell c k.val) 0) ∗ bigSep Finset.univ fun k : Fin 97 => roundState ER (sched X) (kcell c k.val) 0)
      ⊢ (|={Set.univ}=> bigSep Finset.univ fun k : Fin 97 => iprop(∃ κ : ℕ, cellInv ER (sched X) κ (kcell c k.val)) : sProp 𝕄) := by
    rw [← bigSep_sep']
    exact (each fun k _ => (Rounds.body_intro ER (sched X) (kcell c k.val)).trans inv_alloc).trans (toBI (bigSep_fupd _ _))
  unfold dealt
  iintro ⟨Ho, Hu, Hst, Hrest⟩
  ihave Hv := (Entails.of_eq ((sems_eq (F := F) c).trans (bigSep_below 97 fun n => semVal (kcell c n) 0).symm)) $$ [Ho Hu]
  · isplitl [Hu] <;> iassumption
  imod hopen $$ [Hv Hst] with Hinv
  · isplitl [Hv] <;> iassumption
  imodintro
  isplitl [Hinv]; · iexact Hinv
  iexact Hrest

instance records_persistent (K : Dev nD × Fin 97 → ℕ) : BI.Persistent (records X K) := by unfold records; infer_instance

/-- From what the devices have opened to what each starts from. -/
theorem shared_out :
    (bigSep Finset.univ fun c : Dev nD => iprop((bigSep Finset.univ fun k : Fin 97 => iprop(∃ κ : ℕ, cellInv ER (sched X) κ (kcell c k.val)))
          ∗ (bigSep Finset.univ fun k : Fin 97 => atPos ER (kcell c k.val) 0 ∅ 0)
          ∗ (bigSep Finset.univ fun k : Fin 97 => reached ER (kcell c k.val) 0) ∗ minted c) : sProp 𝕄)
      ⊢ bigSep Finset.univ (deal X) := by
  have hp : (bigSep Finset.univ fun c : Dev nD => bigSep Finset.univ fun k : Fin 97 => (atPos ER (kcell c k.val) 0 ∅ 0 : sProp 𝕄))
      = bigSep Finset.univ fun c : Dev nD => places c :=
    bigSep_congr fun c _ => bigSep_below 97 fun n => atPos ER (kcell c n) 0 ∅ 0
  rw [bigSep_sep', bigSep_sep', bigSep_sep', hp, tokens_dealt,
    ← bigSep_univ_prod (fun ck : Dev nD × Fin 97 => iprop(∃ κ : ℕ, cellInv ER (sched X) κ (kcell ck.1 ck.2.val))),
    ← bigSep_univ_prod (fun ck : Dev nD × Fin 97 => (reached ER (kcell ck.1 ck.2.val) 0 : sProp 𝕄))]
  iintro ⟨HI, Hp, #HR, Ht⟩
  ihave HK := (BI.bigSep_exists_pi Finset.univ (fun (ck : Dev nD × Fin 97) (κ : ℕ) => (cellInv ER (sched X) κ (kcell ck.1 ck.2.val) : sProp 𝕄))) $$ HI
  icases HK with ⟨%K, #HI⟩
  iapply (knowing (R := records X K) (A := fun c => iprop(places c ∗ raises c)) (B := deal X) fun c _ => by
    unfold deal; iintro ⟨HR, H⟩; iexists K; isplitl [HR]; · iexact HR
    iexact H)
  isplitr
  · unfold records; isplitl; · iexact HI
    iexact HR
  · rw [bigSep_sep']
    isplitl [Hp]; · iexact Hp
    iexact Ht

/-- The one step all devices take together. -/
theorem together :
    (bigSep Finset.univ fun c => iprop(Pipeline.ownSems0 (Ix := Unit) (Name := ℕ) (U := UU) (Lvl := ℕ) (Val := Elt F) (τ := τ) osem c ∗ unscopedSems0 c ∗ dealt X c) : sProp 𝕄)
      ⊢ |={Set.univ}=> bigSep Finset.univ (deal X) :=
  ((each fun c _ => cells_open X c).trans (toBI (bigSep_fupd _ _))).trans (BI.fupd_mono (shared_out X))

end Launch

/-! ## The credits -/

/-- A raise every device owes another, the devices paired one to one: each device has the credit of the one it gets. -/
theorem credit_one {f : Dev nD → Dev nD} (hf : Function.Bijective f) (n k : ℕ) (c : Dev nD) :
    (Pipeline.launchCred (fun d => tallyAt (kcell (f d) n) () k) c : sProp 𝕄) ⊢ cred (tallyAt (kcell c n) () k) :=
  Pipeline.launchCred_tallyAt (csem n) f (Equiv.ofBijective f hf).symm (fun c => (Equiv.ofBijective f hf).apply_symm_apply c)
    (fun d => (Equiv.ofBijective f hf).symm_apply_apply d) () k c

/-- A credit of `n` is `n` credits of one. -/
theorem credit_units (g : GSem nD τ sig) (n : ℕ) : (cred (tallyAt g () n) : sProp 𝕄) = bigSep (Finset.Ico 0 n) fun _ => cred (tallyAt g () 1) := by
  induction n with
  | zero => rw [tallyAt_zero, cred_zero, Finset.Ico_self, bigSep_empty]; rfl
  | succ n ih =>
    rw [bigSep_Ico_succ_top (Nat.zero_le _), ← ih, Nat.add_comm n 1, ← tallyAt_add]
    exact eq_of_both (cred_add _ _).1 (cred_add _ _).2

theorem credits_dealt (c : Dev nD) : (Pipeline.launchCred (fun d => owed d 0 0 0) c : sProp 𝕄) ⊢ credits c := by
  unfold owed credits
  rw [Pipeline.launchCred_add, Pipeline.launchCred_add, Pipeline.launchCred_sum, Pipeline.launchCred_sum, Pipeline.launchCred_sum, credit_units _ 6]
  iintro ⟨⟨H0, H1⟩, H2⟩
  isplitl [H0]
  · iapply (each fun s hs => credit_one (F := F) (sdst_bijective (Finset.mem_Ico.1 hs).2) 0 1 c); iexact H0
  isplitl [H1]
  · iapply (each fun k hk => credit_one (F := F) (zdst_bijective (Finset.mem_Ico.1 hk).2) (13 + k) N c); iexact H1
  · iapply (each fun j _ => credit_one (F := F) (peer_bijective j) (61 + j) N c); iexact H2

end Cert.AllToAll

end
-- ==== Proof.Run.lean ====
/-
# The run

The launch rule of the library, at this kernel's resources: what each device starts with, what the waits need, what the
machine ends with. Then what the two arrays hold at the end.
-/
module

public import proofs.«01_k».proof.Proof.Launch
public import Idealize.ShloMosaic.Lib.Pipeline.Value
public import Idealize.ShloMosaic.Lib.Pipeline.CollectiveSegs

@[expose] public section

set_option maxRecDepth 10000

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch rule -/

/-- Both arrays are held whole by the pipeline. -/
theorem share_eq (c : Dev nD) (w : Fin cfg0.W) : (dats m 0 c).share w = fullShare := by unfold Dat.share; split <;> rfl

/-- What the launch gives a device, with what was dealt to it, is what the kernel starts from. -/
theorem start_intro (c : Dev nD) :
    iprop(Pipeline.unscopedRestP Pipeline.Prefetch.none cfg0.spec c (fun b => m ((c : Thread nD τ).loc b)) ∗ levAts L lv
        ∗ Pipeline.launchCred (fun d => owed d 0 0 0) c ∗ prngReg c (ρ c) ∗ deal (given m) c)
      ⊢ |={Set.univ}=> iprop(holds₀ m c ∗ emp) := by
  iintro ⟨-, Hl, Hc, -, Hd⟩
  ihave Hc := (credits_dealt (F := F) c) $$ Hc
  imodintro
  unfold holds₀
  isplitl
  · isplitl [Hd]; · iexact Hd
    isplitl [Hc] <;> iassumption
  · iempintro

/-- With the staging buffer's contents, whatever they are, it is what holds before the one grid point. -/
theorem phi0_intro (c : Dev nD) :
    iprop(holds₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bPts
  iintro ⟨Hs, -, Hr⟩
  isplitl [Hs] <;> iassumption

/-- After the point every semaphore of the kernel is at zero and the staging buffer is whole again. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ bPts
  rw [← sems_eq c]
  iintro ⟨Hr, Hu, Ho⟩
  isplitl [Hu]; · iexact Hu
  isplitl [Ho] <;> iassumption

/-- The window copies wait on semaphores below every cell of the kernel. -/
theorem waits (c : Dev nD) : (levAts L lv : sProp 𝕄) ⊢ Pipeline.cellsWaits cfgs (dats m) () 0 c :=
  Pipeline.cellsWaits_intro cfgs (dats m) () 0 c fun w s t => by
    have hl : level (num (.dma (((cfgs 0).win w).sem s))) ≤ 0 := by fin_cases w <;> fin_cases s <;> decide
    rcases t with ⟨_ | _, ht⟩
    · exact mayWait_below c _ 0 0 0 0 hl (by omega) (by omega) (by omega)
    · rw [show (dats m 0 c).owed ⟨_ + 1, ht⟩ = owed c 6 12 36 from (owed_none c).symm]
      exact mayWait_below c _ 6 12 36 0 hl (by omega) (by omega) (by omega)

/-! ## The run -/

/-- What the array of window `w` holds after the last grid point. -/
def finalA (c : Dev nD) (w : Fin cfg0.W) : Buf (Elt F) ((cfg0.win w).arr.view.loc (c : Thread nD τ)) := (dats m 0 c).arrAt w cfg0.N

/-- On each device both arrays hold their final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 200000 in
/-- From any memory with zero counters every weakly fair execution of the sixteen devices ends, without fault; both arrays of
    each device then hold their final contents and every semaphore is at zero. -/
theorem run_main : θ_run defs (onTc (τ := τ) (main (F := F))) (mem₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d 0 0 0) (howed₀ := fun _ => rfl) (howedN := fun _ => rfl)
    (L := L) (lv := lv) (hL := L_of_ne) (hwaits := waits m)
    (G := dealt (given m)) (G' := deal (given m)) (u₀ := u₀)
    (hu₀ := by
      unfold u₀
      iintro Hu
      ihave H := (ownU_pair _ _) $$ Hu
      icases H with ⟨HP, HX⟩
      imod (fund_cells (given m)) $$ HX with HG
      imodintro
      isplitl [HP] <;> iassumption)
    (hglob := together (given m))
    (hA := fun _ _ => rfl) (hpf := fun _ k => k.elim0)
    (X := holds₀ m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

omit [FloatOps F] in
/-- An element of a window's one block sits where it sits in the array. -/
theorem block_is_array (w : Fin 2) (t : Fin cfg0.N) (y : ((cfg0.win w).xblock (grid0.coords t)).Idx) (a : Fin (cfg0.win w).shape.rank) :
    (((cfg0.win w).rect t).emb y a : ℕ) = y a :=
  (cfg0.win w).rect_emb_val_of_index_zero t a (((cfg0.win w).whole_of_rank_zero rfl).2 _ a) y

/-- The argument block is the argument array. -/
theorem given_eq (c : Dev nD) : given m c = m ((c : Thread nD τ).loc main_arg0) :=
  funext fun i => congrArg (m ((c : Thread nD τ).loc main_arg0)) (funext fun a => Fin.ext (block_is_array 0 t0_0 i a))

/-- The argument array ends as it was. -/
theorem finalA_arg (c : Dev nD) : finalA m c (0 : Fin 2) = m ((c : Thread nD τ).loc main_arg0) :=
  (dats m 0 c).arrAt_in (0 : Fin 2) rfl _

/-- The result array ends holding what the kernel left in the result block. -/
theorem finalA_out (c : Dev nD) : finalA m c (1 : Fin 2) = outF (given m) c :=
  (dats m 0 c).arrAt_eq_of_cover (1 : Fin 2) (outF (given m) c)
    (fun t _ => funext fun i => congrArg (outF (given m) c) (funext fun a => Fin.ext (block_is_array 1 t i a).symm))
    (fun i => ⟨t0_0, flush0_1 _, Finset.mem_map.2 ⟨i, Finset.mem_univ _, funext fun a => Fin.ext (block_is_array 1 t0_0 i a)⟩⟩)

end Cert.AllToAll

end
-- ==== Proof.Values.lean ====
/-
# The value

If the devices' arguments are the row blocks of one array, the kernel's results are the column blocks of the same array.
-/
module

public import proofs.«01_k».proof.Proof.Run
public import Idealize.ShloMosaic.Lib.Layout

@[expose] public section

set_option maxRecDepth 10000

noncomputable section

namespace Cert.AllToAll

open Cert.KernelIdeal Cert.KernelIdeal.Gen
open Idealize.ShloMosaic
open Idealize.ShloMosaic.TcCoe

variable {F : FTy → Type} [FloatOps F]

/-- The mesh coordinate that cuts the arrays is the plane of the device. -/
theorem plane_eq : ∀ c : Dev nD, Layout.meshLin [2, 2, 4] c.val [2] = zc c := by decide +kernel

/-- The rows of the result of a device come from the devices that hold them. -/
theorem srcDev_plane (c : Dev nD) {r : ℕ} (h : r < 2048) : zc (srcDev c r) = r / 512 := by
  unfold srcDev
  split
  · exact Eq.symm ‹_›
  · show (8 * _ + 4 * _ + r / 512 % 4) % 4 = _
    omega

/-- An all-to-all carries the row blocks of an array to its column blocks. -/
theorem blocks_exchanged (X : XIn F) (v : (⟨2, ![2048, 2048]⟩ : Shape).Idx → Elt F .bf16)
    (hX : ∀ c : Dev nD, X c = Layout.blockN ⟨2, ![512, 2048]⟩ ⟨2, ![2048, 2048]⟩ (Layout.meshBlock [2, 2, 4] ![[2], []] c) v) (c : Dev nD) :
    outF X c = Layout.blockN ⟨2, ![2048, 512]⟩ ⟨2, ![2048, 2048]⟩ (Layout.meshBlock [2, 2, 4] ![[], [2]] c) v := by
  funext i
  unfold outF
  rw [hX, Layout.blockN_apply, Layout.blockN_apply]
  have h0 : (i 0).val < 2048 := (i 0).isLt
  have h1 : (i 1).val < 512 := (i 1).isLt
  have hz : zc c < 4 := Nat.mod_lt _ (by decide)
  have hp := srcDev_plane c h0
  congr 1
  funext a
  apply Fin.ext
  rw [Layout.TilesN.idx_val, Layout.TilesN.idx_val, Layout.meshBlock_val, Layout.meshBlock_val]
  fin_cases a
  · show Layout.meshLin [2, 2, 4] (srcDev c (i 0).val).val [2] * 512 + (i 0).val % 512 = 0 * 2048 + (i 0).val
    rw [plane_eq, hp]; omega
  · show 0 * 2048 + (512 * zc c + (i 1).val) % 2048 = Layout.meshLin [2, 2, 4] c.val [2] * 512 + (i 1).val
    rw [plane_eq]; omega

end Cert.AllToAll

end
-- ==== Proof.Claims.lean ====
/-
# The claims

Each conjunct of the certificate's claim, from the kernel's run, the reference's run and the exchange of blocks.
-/
module

public import proofs.«01_k».proof.Proof.Values
public import proofs.«01_k».proof.Defs
public import proofs.«01_k».proof.Proof.Gen.Kernel
public import proofs.«01_k».proof.Proof.Gen.ReferenceIdeal

@[expose] public section

set_option maxRecDepth 10000

noncomputable section

namespace Cert.AllToAll

open Idealize.ShloMosaic
open Idealize.ShloMosaic.TcCoe
open Idealize.SL.Sem

/-! ## The reference -/

/-- The reference has no operation: every buffer ends as it was, and there is no semaphore. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c : Thread Cert.ReferenceIdeal.nD Cert.ReferenceIdeal.τ).loc Cert.ReferenceIdeal.main_arg0)
          = m ((c : Thread Cert.ReferenceIdeal.nD Cert.ReferenceIdeal.τ).loc Cert.ReferenceIdeal.main_arg0)) ∧ r.2.sem = fun _ => 0) :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl) (fun _ => trivial) m ρ)

/-! ## The frames -/

/-- Whatever the floats are, the kernel ends without fault, its argument unchanged, its semaphores at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c : Thread Cert.KernelIdeal.nD Cert.KernelIdeal.τ).loc Cert.KernelIdeal.main_arg0)
          = m ((c : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (finalA_arg m c), h.2⟩) (run_main m ρ)

/-- The kernel as printed and its reading over the extended reals have the same body table, row by row. -/
theorem rows_same {F : FTy → Type} [FloatOps F] : Cert.Kernel.defs₀ (F := F) = Cert.KernelIdeal.defs₀ := by
  refine congrArg Defs.onTc (funext fun ℓ => funext fun a => ?_)
  match ℓ, a with
  | 0, (t, s) => rfl

/-- So also with the pipeline's rows. -/
theorem tables_same {F : FTy → Type} [FloatOps F] : Cert.Kernel.defs (F := F) = Cert.KernelIdeal.defs :=
  congrArg (Pipeline.defs Cert.KernelIdeal.pcfgs) rows_same

/-- So it is for the kernel as printed. -/
theorem frame_kernel : Cert.quiescent_Kernel := fun m ρ _ => by
  rw [tables_same]
  exact frame_any (F := Bits) m ρ

/-- So it is over the extended reals. -/
theorem frame_ideal : Cert.quiescent_KernelIdeal := fun m ρ _ => frame_any (F := Ideal) m ρ

/-- So it is of the reference. -/
theorem frame_reference : Cert.quiescent_ReferenceIdeal := fun m ρ _ => reference_run m ρ

/-! ## The values -/

/-- The results of the kernel are the column blocks of the reference's result. -/
theorem values_agree : Cert.algebraic_KernelIdeal_ReferenceIdeal := fun m ρ m' ρ' _ hm =>
  ⟨m' (((0 : Dev Cert.ReferenceIdeal.nD) : Thread Cert.ReferenceIdeal.nD Cert.ReferenceIdeal.τ).loc Cert.ReferenceIdeal.main_arg0),
    (θ_run Cert.KernelIdeal.defs _ _).mono
      (fun _ h c => ⟨((h.1 c (1 : Fin 2)).trans (finalA_out m c)).trans (blocks_exchanged (given m) _ (fun d => (given_eq m d).trans (hm d)) c),
        (h.1 c (0 : Fin 2)).trans (finalA_arg m c)⟩)
      (run_main (F := Ideal) m ρ),
    (θ_run Cert.ReferenceIdeal.defs _ _).mono (fun _ h => ⟨h.1 0, h.1 0⟩) (reference_run m' ρ')⟩

end Cert.AllToAll

end
-- ==== Proof.lean ====
/-
# The certificate's claim

The side conditions of the three programs come from the generated modules. The five conjuncts (three frames, the kernel's
reading over the extended reals, and the equality with the reference) are proved in `Proof.Claims`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that is claimed: each program ends cleanly, and the kernel's results are the blocks of the reference's. -/
theorem claim : Cert.Claim := ⟨Cert.Kernel.Gen.facts, Cert.KernelIdeal.Gen.facts, Cert.ReferenceIdeal.Gen.facts, by
  exact ⟨Cert.AllToAll.frame_kernel, Cert.AllToAll.frame_ideal, Cert.AllToAll.frame_reference, trivial, Cert.AllToAll.values_agree⟩⟩

end Cert.Proof

end
